-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid_inputs [hPre_valid_inputs : Cert.Pre_valid_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_valid_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid_inputs [hPre_valid_inputs : Cert.Pre_valid_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_valid_inputs [hKernelIdeal : Cert.KernelIdeal.Facts] [hPre_valid_inputs : Cert.Pre_valid_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_valid_inputs [hReferenceIdeal : Cert.ReferenceIdeal.Facts] [hPre_valid_inputs : Cert.Pre_valid_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_valid_inputs [hKernelIdeal : Cert.KernelIdeal.Facts] [hReferenceIdeal : Cert.ReferenceIdeal.Facts] [hPre_valid_inputs : Cert.Pre_valid_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_valid_inputs : Cert.Pre_valid_inputs.Facts),
    quiescent_Kernel (hKernel := hKernel)
    ∧ quiescent_KernelIdeal (hKernelIdeal := hKernelIdeal)
    ∧ quiescent_KernelIdeal_pre_valid_inputs (hKernelIdeal := hKernelIdeal) (hPre_valid_inputs := hPre_valid_inputs)
    ∧ quiescent_ReferenceIdeal (hReferenceIdeal := hReferenceIdeal)
    ∧ quiescent_ReferenceIdeal_pre_valid_inputs (hReferenceIdeal := hReferenceIdeal) (hPre_valid_inputs := hPre_valid_inputs)
    ∧ preserves_Kernel_KernelIdeal
    ∧ algebraic_KernelIdeal_ReferenceIdeal_pre_valid_inputs (hKernelIdeal := hKernelIdeal) (hReferenceIdeal := hReferenceIdeal) (hPre_valid_inputs := hPre_valid_inputs)
-- ==== Pre_valid_inputs.lean ====
abbrev S4096x128 : Shape := ⟨2, ![4096, 128]⟩
abbrev S4096x200x128 : Shape := ⟨3, ![4096, 200, 128]⟩
abbrev S4096 : Shape := ⟨1, ![4096]⟩
abbrev S128x128 : Shape := ⟨2, ![128, 128]⟩
abbrev S128 : Shape := ⟨1, ![128]⟩
abbrev S1x128 : Shape := ⟨2, ![1, 128]⟩
abbrev S1 : Shape := ⟨1, ![1]⟩
abbrev S200x128 : Shape := ⟨2, ![200, 128]⟩
abbrev S200 : Shape := ⟨1, ![200]⟩
abbrev S_ : Shape := ⟨0, ![]⟩

class Facts : Prop where
  reducesTo_S200_S_d0 : S200.ReducesTo [0] S_
  h_S_ : 0 < S_.numel
  bcast_S_S4096 : S_.BroadcastsInDim S4096 (![] : Fin 0 → Fin S4096.rank)

variable [Facts]

def fn {F : FTy → Type} [FloatOps F] (main_arg0 : FVec F S4096x128 .f32) (main_arg1 : FVec F S4096x200x128 .f32) (main_arg2 : IVec S4096 32) (main_arg3 : FVec F S128x128 .f32) (main_arg4 : FVec F S128 .f32) (main_arg5 : FVec F S1x128 .f32) (main_arg6 : FVec F S1 .f32) (main_arg7 : FVec F S200x128 .f32) (main_arg8 : FVec F S200 .f32) (main_arg9 : FVec F S128x128 .f32) (main_arg10 : FVec F S128 .f32) : IVec S4096 1 :=
  let main_cst : FVec F S_ .f32 := constant S_ .f32 0xFF800000#32
  let main_v0 : FVec F S_ .f32 := (fun x v => Host.reduce FloatOps.maximumf x v reducesTo_S200_S_d0 h_S_) main_arg8 main_cst
  let main_cst_0 : FVec F S_ .f32 := constant S_ .f32 0xFF800000#32
  let main_v1 : IVec S_ 1 := cmpf .ogt main_v0 main_cst_0
  let main_cst_1 : FVec F S_ .f32 := constant S_ .f32 0x7F800000#32
  let main_v2 : IVec S_ 1 := cmpf .olt main_v0 main_cst_1
  let main_v3 : IVec S_ 1 := andi main_v1 main_v2
  let main_c : IVec S_ 32 := constantI S_ 32 0#32
  let main_v4 : IVec S4096 32 := broadcastInDim S4096 ![] bcast_S_S4096 main_c
  let main_v5 : IVec S4096 1 := cmpi .sge main_arg2 main_v4
  let main_c_2 : IVec S_ 32 := constantI S_ 32 200#32
  let main_v6 : IVec S4096 32 := broadcastInDim S4096 ![] bcast_S_S4096 main_c_2
  let main_v7 : IVec S4096 1 := cmpi .slt main_arg2 main_v6
  let main_v8 : IVec S4096 1 := andi main_v5 main_v7
  let main_v9 : IVec S4096 1 := broadcastInDim S4096 ![] bcast_S_S4096 main_v3
  let main_v10 : IVec S4096 1 := andi main_v8 main_v9
  main_v10
-- ==== Kernel.lean ====
abbrev S4096x128 : Shape := ⟨2, ![4096, 128]⟩
abbrev S4096x200x128 : Shape := ⟨3, ![4096, 200, 128]⟩
abbrev S4096 : Shape := ⟨1, ![4096]⟩
abbrev S128x128 : Shape := ⟨2, ![128, 128]⟩
abbrev S128 : Shape := ⟨1, ![128]⟩
abbrev S1x128 : Shape := ⟨2, ![1, 128]⟩
abbrev S1 : Shape := ⟨1, ![1]⟩
abbrev S200x128 : Shape := ⟨2, ![200, 128]⟩
abbrev S200 : Shape := ⟨1, ![200]⟩
abbrev S4096x1 : Shape := ⟨2, ![4096, 1]⟩
abbrev S1x1 : Shape := ⟨2, ![1, 1]⟩
abbrev S1x200 : Shape := ⟨2, ![1, 200]⟩
abbrev S64x200x128 : Shape := ⟨3, ![64, 200, 128]⟩
abbrev S64x128 : Shape := ⟨2, ![64, 128]⟩
abbrev S64 : Shape := ⟨1, ![64]⟩
abbrev S64x1 : Shape := ⟨2, ![64, 1]⟩
abbrev S64x200 : Shape := ⟨2, ![64, 200]⟩
abbrev S64x200x1 : Shape := ⟨3, ![64, 200, 1]⟩
abbrev S64x1x128 : Shape := ⟨3, ![64, 1, 128]⟩
abbrev S1x1x200 : Shape := ⟨3, ![1, 1, 200]⟩
abbrev S64x1x200 : Shape := ⟨3, ![64, 1, 200]⟩

abbrev nBuf : Space → Nat
  | .hbm => 20
  | .vmem => 16
  | .smem => 0
  | _ => 0

abbrev bufTy : (tb : Table) → Fin (tcTables nBuf tb) → BufTy
  | .hbm, ⟨0, _⟩ => ⟨S4096x128, .f32⟩
  | .hbm, ⟨1, _⟩ => ⟨S4096x200x128, .f32⟩
  | .hbm, ⟨2, _⟩ => ⟨S4096, .i32⟩
  | .hbm, ⟨3, _⟩ => ⟨S128x128, .f32⟩
  | .hbm, ⟨4, _⟩ => ⟨S128, .f32⟩
  | .hbm, ⟨5, _⟩ => ⟨S1x128, .f32⟩
  | .hbm, ⟨6, _⟩ => ⟨S1, .f32⟩
  | .hbm, ⟨7, _⟩ => ⟨S200x128, .f32⟩
  | .hbm, ⟨8, _⟩ => ⟨S200, .f32⟩
  | .hbm, ⟨9, _⟩ => ⟨S128x128, .f32⟩
  | .hbm, ⟨10, _⟩ => ⟨S128, .f32⟩
  | .hbm, ⟨11, _⟩ => ⟨S4096x1, .i32⟩
  | .hbm, ⟨12, _⟩ => ⟨S1x128, .f32⟩
  | .hbm, ⟨13, _⟩ => ⟨S1x1, .f32⟩
  | .hbm, ⟨14, _⟩ => ⟨S1x200, .f32⟩
  | .hbm, ⟨15, _⟩ => ⟨S1x128, .f32⟩
  | .hbm, ⟨16, _⟩ => ⟨S4096x128, .f32⟩
  | .hbm, ⟨17, _⟩ => ⟨S4096x200x128, .f32⟩
  | .hbm, ⟨18, _⟩ => ⟨S4096x1, .i32⟩
  | .hbm, ⟨19, _⟩ => ⟨S4096, .i32⟩
  | .local _ .vmem, ⟨0, _⟩ => ⟨S4096x128, .f32⟩
  | .local _ .vmem, ⟨1, _⟩ => ⟨S64x200x128, .f32⟩
  | .local _ .vmem, ⟨2, _⟩ => ⟨S64x200x128, .f32⟩
  | .local _ .vmem, ⟨3, _⟩ => ⟨S4096x1, .i32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x1, .f32⟩
  | .local _ .vmem, ⟨8, _⟩ => ⟨S200x128, .f32⟩
  | .local _ .vmem, ⟨9, _⟩ => ⟨S1x200, .f32⟩
  | .local _ .vmem, ⟨10, _⟩ => ⟨S128x128, .f32⟩
  | .local _ .vmem, ⟨11, _⟩ => ⟨S1x128, .f32⟩
  | .local _ .vmem, ⟨12, _⟩ => ⟨S4096x128, .f32⟩
  | .local _ .vmem, ⟨13, _⟩ => ⟨S64x200x128, .f32⟩
  | .local _ .vmem, ⟨14, _⟩ => ⟨S64x200x128, .f32⟩
  | .local _ .vmem, ⟨15, _⟩ => ⟨S4096x1, .i32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev main_v6 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let arg0 : BitVec 32 := BitVec.ofNat 32 (i 0).val
  let c64_i32 : BitVec 32 := 64#32
  let v0 : BitVec 32 := Scalar.muli arg0 c64_i32
  let v1 : Index := Scalar.indexCast v0
  let c0 : Index := 0#32
  ![v1.toNat, 0]
def k0_off2 (i : grid0.Coords) : Fin 2 → Nat :=
  let arg0 : BitVec 32 := BitVec.ofNat 32 (i 0).val
  let c64_i32 : BitVec 32 := 64#32
  let v0 : BitVec 32 := Scalar.muli arg0 c64_i32
  let v22 : Index := Scalar.indexCast v0
  let c0_13 : Index := 0#32
  ![v22.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S200x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x200 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S64x200x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4096x1 .i32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S4096x128 : Shape := ⟨2, ![4096, 128]⟩
abbrev S4096x200x128 : Shape := ⟨3, ![4096, 200, 128]⟩
abbrev S4096 : Shape := ⟨1, ![4096]⟩
abbrev S128x128 : Shape := ⟨2, ![128, 128]⟩
abbrev S128 : Shape := ⟨1, ![128]⟩
abbrev S1x128 : Shape := ⟨2, ![1, 128]⟩
abbrev S1 : Shape := ⟨1, ![1]⟩
abbrev S200x128 : Shape := ⟨2, ![200, 128]⟩
abbrev S200 : Shape := ⟨1, ![200]⟩
abbrev S128x1 : Shape := ⟨2, ![128, 1]⟩
abbrev S4096x1 : Shape := ⟨2, ![4096, 1]⟩
abbrev S1x1 : Shape := ⟨2, ![1, 1]⟩
abbrev S_ : Shape := ⟨0, ![]⟩
abbrev S4096x2 : Shape := ⟨2, ![4096, 2]⟩
abbrev S4096x1x1 : Shape := ⟨3, ![4096, 1, 1]⟩
abbrev S1x200x128 : Shape := ⟨3, ![1, 200, 128]⟩
abbrev S1x200x1 : Shape := ⟨3, ![1, 200, 1]⟩

abbrev nBuf : Space → Nat
  | .hbm => 105
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x200x128, .f32⟩
  | .hbm, ⟨2, _⟩ => ⟨S4096, .i32⟩
  | .hbm, ⟨3, _⟩ => ⟨S128x128, .f32⟩
  | .hbm, ⟨4, _⟩ => ⟨S128, .f32⟩
  | .hbm, ⟨5, _⟩ => ⟨S1x128, .f32⟩
  | .hbm, ⟨6, _⟩ => ⟨S1, .f32⟩
  | .hbm, ⟨7, _⟩ => ⟨S200x128, .f32⟩
  | .hbm, ⟨8, _⟩ => ⟨S200, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S4096x1, .f32⟩
  | .hbm, ⟨13, _⟩ => ⟨S1x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S128x128, .f32⟩
  | .hbm, ⟨25, _⟩ => ⟨S4096x128, .f32⟩
  | .hbm, ⟨26, _⟩ => ⟨S1x128, .f32⟩
  | .hbm, ⟨27, _⟩ => ⟨S4096x128, .f32⟩
  | .hbm, ⟨28, _⟩ => ⟨S4096x128, .f32⟩
  | .hbm, ⟨29, _⟩ => ⟨S_, .f32⟩
  | .hbm, ⟨30, _⟩ => ⟨S4096x1, .f32⟩
  | .hbm, ⟨31, _⟩ => ⟨S4096x1, .i1⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S4096, .i32⟩
  | .hbm, ⟨40, _⟩ => ⟨S_, .i32⟩
  | .hbm, ⟨41, _⟩ => ⟨S4096, .i32⟩
  | .hbm, ⟨42, _⟩ => ⟨S4096, .i1⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S4096x1, .i32⟩
  | .hbm, ⟨48, _⟩ => ⟨S4096x1, .i32⟩
  | .hbm, ⟨49, _⟩ => ⟨S4096x2, .i32⟩
  | .hbm, ⟨50, _⟩ => ⟨S4096x200x128, .f32⟩
  | .hbm, ⟨51, _⟩ => ⟨S4096x1x1, .i1⟩
  | .hbm, ⟨52, _⟩ => ⟨S4096x200x128, .i1⟩
  | .hbm, ⟨53, _⟩ => ⟨S4096x200x128, .f32⟩
  | .hbm, ⟨54, _⟩ => ⟨S4096, .i1⟩
  | .hbm, ⟨55, _⟩ => ⟨S4096, .i32⟩
  | .hbm, ⟨56, _⟩ => ⟨S4096, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S4096, .i32⟩
  | .hbm, ⟨64, _⟩ => ⟨S4096, .i32⟩
  | .hbm, ⟨65, _⟩ => ⟨S_, .i32⟩
  | .hbm, ⟨66, _⟩ => ⟨S4096, .i32⟩
  | .hbm, ⟨67, _⟩ => ⟨S4096, .i1⟩
  | .hbm, ⟨68, _⟩ => ⟨S_, .i32⟩
  | .hbm, ⟨69, _⟩ => ⟨S4096, .i32⟩
  | .hbm, ⟨70, _⟩ => ⟨S4096, .i1⟩
  | .hbm, ⟨71, _⟩ => ⟨S_, .i32⟩
  | .hbm, ⟨72, _⟩ => ⟨S_, .i1⟩
  | .hbm, ⟨73, _⟩ => ⟨S4096, .i1⟩
  | .hbm, ⟨74, _⟩ => ⟨S4096, .i1⟩
  | .hbm, ⟨75, _⟩ => ⟨S4096, .i1⟩
  | .hbm, ⟨76, _⟩ => ⟨S4096, .i32⟩
  | .hbm, ⟨77, _⟩ => ⟨S4096, .i32⟩
  | .hbm, ⟨78, _⟩ => ⟨S4096, .i32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S1, .f32⟩
  | .hbm, ⟨84, _⟩ => ⟨S200, .f32⟩
  | .hbm, ⟨85, _⟩ => ⟨S200, .f32⟩
  | .hbm, ⟨86, _⟩ => ⟨S200, .f32⟩
  | .hbm, ⟨87, _⟩ => ⟨S_, .f32⟩
  | .hbm, ⟨88, _⟩ => ⟨S_, .f32⟩
  | .hbm, ⟨89, _⟩ => ⟨S1, .f32⟩
  | .hbm, ⟨90, _⟩ => ⟨S200, .f32⟩
  | .hbm, ⟨91, _⟩ => ⟨S200, .f32⟩
  | .hbm, ⟨92, _⟩ => ⟨S1x200x128, .f32⟩
  | .hbm, ⟨93, _⟩ => ⟨S4096x200x128, .f32⟩
  | .hbm, ⟨94, _⟩ => ⟨S4096x200x128, .f32⟩
  | .hbm, ⟨95, _⟩ => ⟨S1x200x1, .f32⟩
  | .hbm, ⟨96, _⟩ => ⟨S4096x200x128, .f32⟩
  | .hbm, ⟨97, _⟩ => ⟨S4096x200x128, .f32⟩
  | .hbm, ⟨98, _⟩ => ⟨S_, .f32⟩
  | .hbm, ⟨99, _⟩ => ⟨S4096x128, .f32⟩
  | .hbm, ⟨100, _⟩ => ⟨S128x128, .f32⟩
  | .hbm, ⟨101, _⟩ => ⟨S4096x128, .f32⟩
  | .hbm, ⟨102, _⟩ => ⟨S1x128, .f32⟩
  | .hbm, ⟨103, _⟩ => ⟨S4096x128, .f32⟩
  | .hbm, ⟨104, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call0_v0 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_5 : Ref sig .tc := ⟨.hbm, 57, rfl⟩
abbrev main_call1_v0 : Ref sig .tc := ⟨.hbm, 58, rfl⟩
abbrev main_call1_c : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_c_1 : Ref sig .tc := ⟨.hbm, 65, rfl⟩
abbrev main_call1_v5 : Ref sig .tc := ⟨.hbm, 66, rfl⟩
abbrev main_call1_v6 : Ref sig .tc := ⟨.hbm, 67, rfl⟩
abbrev main_call1_c_2 : Ref sig .tc := ⟨.hbm, 68, rfl⟩
abbrev main_call1_v7 : Ref sig .tc := ⟨.hbm, 69, rfl⟩
abbrev main_call1_v8 : Ref sig .tc := ⟨.hbm, 70, rfl⟩
abbrev main_call1_c_3 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_v38 : Ref sig .tc := ⟨.hbm, 78, rfl⟩
abbrev main_cst_6 : Ref sig .tc := ⟨.hbm, 79, rfl⟩
abbrev main_v39 : Ref sig .tc := ⟨.hbm, 80, rfl⟩
abbrev main_cst_7 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_cst_8 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_cst_9 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩

abbrev nD : Nat := 1
abbrev τ : Topo := Topo.v7x

variable {F : FTy → Type} [FloatOps F]
-- ==== Proof.Math.lean ====
/- The arithmetic of the cell, on numbers and words: the softmax weights and their sums over the extended reals, the
   selection of a slot, and the step of the slot pointer. -/
module

public import Idealize.ShloMosaic.Lib.Pointwise
public import Idealize.ShloMosaic.PureOps.Ideal

@[expose] public section

set_option maxRecDepth 16384

noncomputable section

namespace Cert.Cell

open Idealize.ShloMosaic

/-! ## Constants -/

/-- The word of one half. -/
theorem half_word : Ideal.ofBits .f32 0x3F000000#32 = ((1 / 2 : ℝ) : EReal) := by
  simp [Ideal.ofBits, Ideal.ieee, -EReal.coe_mul]
  norm_num

/-- The word of minus infinity. -/
theorem bot_word : Ideal.ofBits .f32 0xFF800000#32 = ⊥ := by simp [Ideal.ofBits, Ideal.ieee]

/-- The word of plus infinity. -/
theorem top_word : Ideal.ofBits .f32 0x7F800000#32 = ⊤ := by simp [Ideal.ofBits, Ideal.ieee]

/-! ## Softmax weights -/

/-- The maximum of the raw weights. -/
def top (sw : Fin 200 → EReal) : EReal := Finset.univ.fold max (Ideal.ofBits .f32 0xFF800000#32) sw

/-- Slot `s`'s softmax weight. -/
def weight (sw : Fin 200 → EReal) (s : Fin 200) : EReal :=
  Ideal.div (Ideal.exp (sw s - top sw)) (∑ k, Ideal.exp (sw k - top sw))

/-- No raw weight is above the maximum. -/
theorem le_top (sw : Fin 200 → EReal) (s : Fin 200) : sw s ≤ top sw :=
  Finset.le_fold_max (sw s) |>.2 (.inr ⟨s, Finset.mem_univ s, le_rfl⟩)

/-- Starting the maximum once more from its own start changes nothing. -/
theorem max_top (sw : Fin 200 → EReal) : max (Ideal.ofBits .f32 0xFF800000#32) (top sw) = top sw :=
  max_eq_right (Finset.le_fold_max _ |>.2 (.inl le_rfl))

/-- An exponential is not negative. -/
theorem exp_nonneg (x : EReal) : 0 ≤ Ideal.exp x := by
  induction x with
  | bot => simp
  | top => simp
  | coe r => rw [Ideal.exp_coe]; exact_mod_cast (Real.exp_pos r).le

/-- An inverse is never plus infinity. -/
theorem inv_ne_top (x : EReal) : x⁻¹ ≠ ⊤ := by
  induction x with
  | bot => simp
  | top => simp
  | coe r => rw [← EReal.coe_inv]; exact EReal.coe_ne_top _

/-- With a finite maximum, the exponential of a raw weight less the maximum is a real number. -/
theorem exp_sub_ne_top (sw : Fin 200 → EReal) (hb : top sw ≠ ⊥) (ht : top sw ≠ ⊤) (s : Fin 200) :
    Ideal.exp (sw s - top sw) ≠ ⊤ := by
  have hle := le_top sw s
  generalize top sw = M at *
  generalize sw s = x at *
  induction M with
  | bot => exact absurd rfl hb
  | top => exact absurd rfl ht
  | coe q =>
    induction x with
    | bot => simp
    | top => exact absurd (top_le_iff.1 hle) ht
    | coe r => rw [← EReal.coe_sub, Ideal.exp_coe]; exact EReal.coe_ne_top _

/-- With a finite maximum, the exponentials do not sum to zero. -/
theorem sum_ne_zero (sw : Fin 200 → EReal) (hb : top sw ≠ ⊥) (ht : top sw ≠ ⊤) :
    (∑ k, Ideal.exp (sw k - top sw)) ≠ 0 := by
  intro h0
  have hlt : ⊥ < top sw := bot_lt_iff_ne_bot.2 hb
  obtain h | ⟨s, -, hs⟩ := (Finset.lt_fold_max ⊥).1 hlt
  · rw [bot_word] at h; exact absurd h (lt_irrefl _)
  have h1 : Ideal.exp (sw s - top sw) = 0 :=
    (Finset.sum_eq_zero_iff_of_nonneg fun k _ => exp_nonneg _).1 h0 s (Finset.mem_univ s)
  have hle := le_top sw s
  generalize top sw = M at *
  generalize sw s = x at *
  induction M with
  | bot => exact absurd rfl hb
  | top => exact absurd rfl ht
  | coe q =>
    induction x with
    | bot => exact absurd hs (lt_irrefl _)
    | top => exact absurd (top_le_iff.1 hle) ht
    | coe r =>
      rw [← EReal.coe_sub, Ideal.exp_coe] at h1
      exact absurd (EReal.coe_eq_zero.1 h1) (Real.exp_pos _).ne'

/-- With a finite maximum, a softmax weight is neither negative nor plus infinity. -/
theorem weight_real (sw : Fin 200 → EReal) (hb : top sw ≠ ⊥) (ht : top sw ≠ ⊤) (s : Fin 200) :
    0 ≤ weight sw s ∧ weight sw s ≠ ⊤ := by
  unfold weight Ideal.div
  rw [if_neg (sum_ne_zero sw hb ht)]
  have hS : 0 ≤ ∑ k, Ideal.exp (sw k - top sw) := Finset.sum_nonneg fun k _ => exp_nonneg _
  have h1 := exp_sub_ne_top sw hb ht s
  have h2 := exp_nonneg (sw s - top sw)
  have h3 := EReal.inv_nonneg_of_nonneg hS
  have h4 := inv_ne_top (∑ k, Ideal.exp (sw k - top sw))
  generalize Ideal.exp (sw s - top sw) = e at *
  generalize (∑ k, Ideal.exp (sw k - top sw))⁻¹ = v at *
  refine ⟨mul_nonneg h2 h3, ?_⟩
  induction e with
  | bot => simp at h2
  | top => exact absurd rfl h1
  | coe r =>
    induction v with
    | bot => simp at h3
    | top => exact absurd rfl h4
    | coe q => rw [← EReal.coe_mul]; exact EReal.coe_ne_top _

/-- The weighted sum of the slots and the weighted sum of the positional rows add up to the weighted sum of their sums. -/
theorem fuse (sw n p : Fin 200 → EReal) (hb : top sw ≠ ⊥) (ht : top sw ≠ ⊤) :
    (∑ s, weight sw s * n s) + ∑ s, weight sw s * p s = ∑ s, (n s + p s) * weight sw s := by
  rw [← Finset.sum_add_distrib]
  refine Finset.sum_congr rfl fun s _ => ?_
  obtain ⟨h1, h2⟩ := weight_real sw hb ht s
  rw [EReal.right_distrib_of_nonneg_of_ne_top h1 h2, mul_comm (n s), mul_comm (p s)]

/-! ## The gate and the slot that is written -/

/-- The gate at score `z`: whether the logistic function of `z` is above the threshold. -/
def gate (z : EReal) : BitVec 1 := BitVec.ofBool (decide (Ideal.ofBits .f32 0x3F59999A#32 < Ideal.logistic z))

/-- The bit of "this is the pointer's slot, and the gate is open". -/
theorem pick_bit (a p : BitVec 32) (g : BitVec 1) : IntOp.andi (IntOp.cmpi .eq a p) g = 1#1 ↔ p = a ∧ g = 1#1 := by
  unfold IntOp.andi IntOp.cmpi
  by_cases h : a = p
  · subst h
    obtain rfl | rfl : g = 0#1 ∨ g = 1#1 := by revert g; decide
    · simp
    · simp
  · obtain rfl | rfl : g = 0#1 ∨ g = 1#1 := by revert g; decide
    · simp [Ne.symm h]
    · have h' : (a == p) = false := beq_false_of_ne h
      simp [h', Ne.symm h]

/-- A bit turned into a number is above one half exactly when it is set. -/
theorem half_lt_bit (b : BitVec 1) :
    Ideal.ofBits .f32 0x3F000000#32 < FloatOps.sitofp (F := Ideal) FTy.f32 (BitVec.setWidth 32 b) ↔ b = 1#1 := by
  show Ideal.ofBits .f32 0x3F000000#32 < (((BitVec.setWidth 32 b).toInt : ℝ) : EReal) ↔ b = 1#1
  rw [half_word, EReal.coe_lt_coe_iff]
  obtain rfl | rfl : b = 0#1 ∨ b = 1#1 := by revert b; decide
  · simp
  · simp
    norm_num

/-- The word of a slot's number, read signed. -/
theorem slot_toInt (s : Fin 200) : (BitVec.ofNat 32 s.val).toInt = (s.val : Int) := by
  revert s; decide +kernel

/-! ## The pointer's step -/

/-- A pointer below the number of slots is one of their words. -/
theorem word_of_range (p : BitVec 32) (h0 : 0 ≤ p.toInt) (h1 : p.toInt < 200) : ∃ n : Fin 200, p = BitVec.ofNat 32 n.val := by
  have hp : p.toInt = (p.toNat : Int) := by
    rw [BitVec.toInt_eq_toNat_cond] at h0 ⊢
    have := p.isLt
    split
    · rfl
    · rename_i h; rw [if_neg h] at h0; omega
  exact ⟨⟨p.toNat, by omega⟩, by simp⟩

/-- The pointer after the step: the next slot if the gate is open, the first again after the last. -/
def step (g : BitVec 1) (p : BitVec 32) : BitVec 32 :=
  Scalar.select (IntOp.andi g (IntOp.cmpi .eq p 199#32)) (0#32) (IntOp.addi p (BitVec.setWidth 32 g))

/-- The remainder of a word by the number of slots, signs fixed up the way a floor remainder does. -/
def wrap (n q : BitVec 32) : BitVec 32 :=
  Scalar.select (IntOp.andi (IntOp.cmpi .ne (IntOp.cmpi .slt (IntOp.remsi .host q n) 0#32) (IntOp.cmpi .slt n 0#32))
      (IntOp.cmpi .ne (IntOp.remsi .host q n) 0#32))
    (IntOp.addi (IntOp.remsi .host q n) n) (IntOp.remsi .host q n)

/-- For a pointer in range, the step is the remainder of pointer plus gate. -/
theorem step_eq_wrap (g : BitVec 1) (n : Fin 200) :
    step g (BitVec.ofNat 32 n.val) = wrap 200#32 (IntOp.addi (BitVec.ofNat 32 n.val) (BitVec.setWidth 32 g)) := by
  revert g n
  decide +kernel

end Cert.Cell

end
-- ==== Proof.Pre.lean ====
/- What the precondition says of the arguments: every pointer is a slot's number, and the maximum of the raw weights is
   finite. -/
module

public import proofs.«01_k».proof.Pre_valid_inputs
public import proofs.«01_k».proof.Proof.Math
public import Idealize.ShloMosaic.Lib.Pointwise
public import Idealize.ShloMosaic.PureOps.Ideal

@[expose] public section

set_option maxRecDepth 16384

noncomputable section

namespace Cert.Pre_valid_inputs

open Idealize.ShloMosaic

/-- The side conditions the precondition states of its operations hold. -/
theorem facts : Facts where
  reducesTo_S200_S_d0 := by decide
  h_S_ := by decide
  bcast_S_S4096 := by decide

variable [Facts]

/-- Two bits that are both set. -/
theorem both_set (a b : BitVec 1) : IntOp.andi a b = 1#1 ↔ a = 1#1 ∧ b = 1#1 := by
  revert a b; decide

/-- A bit that holds a decided statement is set exactly when the statement holds. -/
theorem ofBool_set (p : Prop) [Decidable p] : BitVec.ofBool (decide p) = 1#1 ↔ p := by
  by_cases h : p <;> simp [h]

/-- What the precondition says, read at row `b`. -/
theorem spec (x0 : FVec Ideal S4096x128 .f32) (x1 : FVec Ideal S4096x200x128 .f32) (ptr : IVec S4096 32)
    (x3 : FVec Ideal S128x128 .f32) (x4 : FVec Ideal S128 .f32) (x5 : FVec Ideal S1x128 .f32) (x6 : FVec Ideal S1 .f32)
    (x7 : FVec Ideal S200x128 .f32) (sw : FVec Ideal S200 .f32) (x9 : FVec Ideal S128x128 .f32) (x10 : FVec Ideal S128 .f32)
    (h : fn x0 x1 ptr x3 x4 x5 x6 x7 sw x9 x10 = fun _ => 1#1) (b : Fin 4096) :
    (∃ n : Fin 200, ptr (ix1 b) = BitVec.ofNat 32 n.val)
      ∧ Cell.top (fun k => sw (ix1 k)) ≠ ⊥ ∧ Cell.top (fun k => sw (ix1 k)) ≠ ⊤ := by
  have hb := congrFun h (ix1 b)
  pointwise [fn] at hb
  simp only [both_set, ofBool_set] at hb
  obtain ⟨⟨h0, h1⟩, h2, h3⟩ := hb
  refine ⟨Cell.word_of_range _ ?_ ?_, ?_, ?_⟩
  · exact (ofBool_set _).mp (by unfold IntOp.cmpi at h0; simpa [BitVec.sle] using h0)
  · exact (ofBool_set _).mp (by unfold IntOp.cmpi at h1; simpa [BitVec.slt] using h1)
  · rw [Cell.bot_word] at h2; unfold Cell.top; rw [Cell.bot_word]; exact h2.ne'
  · rw [Cell.top_word] at h3; unfold Cell.top; exact h3.ne

end Cert.Pre_valid_inputs

end
-- ==== Proof.Body.lean ====
/- The kernel's body at one grid point, run once: what it leaves in the three result buffers, in terms of the blocks
   of its inputs. -/
module

public import proofs.«01_k».proof.Proof.Gen.KernelIdeal.Frame
public import proofs.«01_k».proof.Proof.Gen.KernelIdeal.Skeleton
public import Idealize.ShloMosaic.Lib.WritesUnit
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The sixty-four rows of `x` that point `i` works on. -/
abbrev xRows (i : grid0.Coords) (x0 : Vec F S4096x128 .f32) : Vec F S64x128 .f32 :=
  View.ld x0 (Rect.unit (s := S4096x128) (k0_off1 i) S64x128.size (k0_off1_inb i))

/-- The sixty-four entries of `ptr` that point `i` works on. -/
abbrev ptrRows (i : grid0.Coords) (x2 : Vec F S4096x1 .i32) : Vec F S64x1 .i32 :=
  View.ld x2 (Rect.unit (s := S4096x1) (k0_off2 i) S64x1.size (k0_off2_inb i))

/-- The block of `new_slots` that point `i` stores. -/
def slotsOut (i : grid0.Coords) (x0 : Vec F S4096x128 .f32) (x1 : Vec F S64x200x128 .f32) (x2 : Vec F S4096x1 .i32)
    (x3 : Vec F S128x128 .f32) (x4 : Vec F S1x128 .f32) (x5 : Vec F S1x128 .f32) (x6 : Vec F S1x1 .f32) :
    Vec F S64x200x128 .f32 :=
  k0_pay3 (xRows i x0) x5 x6 x3 x4 x1 (ptrRows i x2)

/-- The rows of `new_ptr` that point `i` stores. -/
def ptrOut (i : grid0.Coords) (x0 : Vec F S4096x128 .f32) (x2 : Vec F S4096x1 .i32) (x5 : Vec F S1x128 .f32)
    (x6 : Vec F S1x1 .f32) : Vec F S64x1 .i32 :=
  k0_pay5 (k0_pay1 (xRows i x0) x5 x6) (k0_pay2 (F := F) (ptrRows i x2))

/-- The rows of `h` that point `i` stores. -/
def hOut (i : grid0.Coords) (x0 : Vec F S4096x128 .f32) (x1 : Vec F S64x200x128 .f32) (x2 : Vec F S4096x1 .i32)
    (x3 : Vec F S128x128 .f32) (x4 : Vec F S1x128 .f32) (x5 : Vec F S1x128 .f32) (x6 : Vec F S1x1 .f32)
    (x7 : Vec F S200x128 .f32) (x8 : Vec F S1x200 .f32) (x9 : Vec F S128x128 .f32) (x10 : Vec F S1x128 .f32) :
    Vec F S64x128 .f32 :=
  k0_pay4 (slotsOut i x0 x1 x2 x3 x4 x5 x6) x8 x7 x9 x10

/-- The offsets of the rows of `x` and `h` at point `i`. -/
theorem off1_eq (i : grid0.Coords) : k0_off1 i = ![(i 0).val * 64, 0] := by
  have h : (i 0).val < 64 := (i 0).isLt
  unfold k0_off1
  simp only [Scalar.muli, Scalar.indexCast, IntOp.muli]
  congr 1
  simp [BitVec.toNat_mul, BitVec.toNat_ofNat]
  omega

/-- The offsets of the rows of `ptr` and `new_ptr` at point `i`. -/
theorem off2_eq (i : grid0.Coords) : k0_off2 i = ![(i 0).val * 64, 0] := off1_eq i

-- (the run's proof term is large: checking it walks past the default budget)
set_option maxHeartbeats 1600000 in
/-- The body's run. From the inputs' buffers at `x0` … `x10` and the three results' at `d11`, `d12`, `d13`, the body
    ends with the inputs' as they were, the block of `new_slots` at `slotsOut`, and the buffers of `h` and `new_ptr`
    with point `i`'s rows at `hOut` and `ptrOut` and every other row as it was. -/
theorem bodyRun (c : Dev nD) (i : grid0.Coords) (arg1 : Memref sig .tc .vmem S4096x128 .f32) (harg1 : arg1.IsWhole) (arg2 : Memref sig .tc .vmem S64x200x128 .f32) (harg2 : arg2.IsWhole) (arg3 : Memref sig .tc .vmem S4096x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S200x128 .f32) (harg8 : arg8.IsWhole) (arg9 : Memref sig .tc .vmem S1x200 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S4096x128 .f32) (harg12 : arg12.IsWhole) (arg13 : Memref sig .tc .vmem S64x200x128 .f32) (harg13 : arg13.IsWhole) (arg14 : Memref sig .tc .vmem S4096x1 .i32) (harg14 : arg14.IsWhole)
    (x0 : Vec F S4096x128 .f32) (x1 : Vec F S64x200x128 .f32) (x2 : Vec F S4096x1 .i32) (x3 : Vec F S128x128 .f32) (x4 : Vec F S1x128 .f32) (x5 : Vec F S1x128 .f32) (x6 : Vec F S1x1 .f32) (x7 : Vec F S200x128 .f32) (x8 : Vec F S1x200 .f32) (x9 : Vec F S128x128 .f32) (x10 : Vec F S1x128 .f32)
    (d11 : Vec F S4096x128 .f32) (d13 : Vec F S4096x1 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare d11 ∗ (∃ d, owns (c : Thread nD τ) arg13 fullShare d) ∗ owns (c : Thread nD τ) arg14 fullShare d13
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ (∃ X, ⌜(∀ (y : S4096x128.Idx) (x : S64x128.Idx), (y 0).val = (i 0).val * 64 + (x 0).val → (y 1).val = (x 1).val → X y = hOut i x0 x1 x2 x3 x4 x5 x6 x7 x8 x9 x10 x)
                ∧ ∀ y : S4096x128.Idx, ((y 0).val < (i 0).val * 64 ∨ (i 0).val * 64 + 64 ≤ (y 0).val) → X y = d11 y⌝ ∗ owns (c : Thread nD τ) arg12 fullShare X)
            ∗ owns (c : Thread nD τ) arg13 fullShare (slotsOut i x0 x1 x2 x3 x4 x5 x6)
            ∗ (∃ X, ⌜(∀ (y : S4096x1.Idx) (x : S64x1.Idx), (y 0).val = (i 0).val * 64 + (x 0).val → (y 1).val = (x 1).val → X y = ptrOut i x0 x2 x5 x6 x)
                ∧ ∀ y : S4096x1.Idx, ((y 0).val < (i 0).val * 64 ∨ (i 0).val * 64 + 64 ≤ (y 0).val) → X y = d13 y⌝ ∗ owns (c : Thread nD τ) arg14 fullShare X)) -∗ K ⟨⟩))
      ⊢ wp frame (wpE (defs₀ (F := F)) Variants.none c none) E (cc0__cell_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__cell_kernel_eq_skeleton]; unfold cc0__cell_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg10.eq_unread hf9
  obtain rfl := harg11.eq_unread hf10
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; swap
    · iexists _; isplitr; swap; · iexact H11
      ipureintro; rfl
    ipureintro
    refine ⟨fun y x h0 h1 => ?_, fun y h => ?_⟩
    · refine (View.read_writes_cons_rows_of_mem (o := (i 0).val * 64) _ _ _ _ [] y x (off1_eq i) h0 h1).trans ?_
      refine congrFun ?_ x
      unfold hOut slotsOut
      sl_unfold_run_names
      simp (disch := decide) only [View.readAt_eq_ld, hf0, hf1, hf2, hf3, hf4, hf5, hf6, hf7, hf8, hf9, hf10, View.ld_unit_lit']
      try rfl
    · refine (View.read_writes_cons_rows_of_not_mem (o := (i 0).val * 64) (W := 64) _ _ _ _ [] y (off1_eq i) rfl h).trans ?_
      exact congrFun hf11 y
  isplitl [H12]
  · iexists _; isplitr; swap; · iexact H12
    ipureintro
    refine funext fun y => (View.read_writes_cons_unit_of_mem (off' := fun _ => 0) _ _ _ _ [] y y (by decide) fun a => (Nat.zero_add _).symm).trans ?_
    refine congrFun ?_ y
    unfold slotsOut
    sl_unfold_run_names
    simp (disch := decide) only [View.readAt_eq_ld, hf0, hf1, hf2, hf3, hf4, hf5, hf6, hf7, hf8, hf9, hf10, View.ld_unit_lit']
    try rfl
  iexists _; isplitr; swap
  · iexists _; isplitr; swap; · iexact H13
    ipureintro; rfl
  ipureintro
  refine ⟨fun y x h0 h1 => ?_, fun y h => ?_⟩
  · refine (View.read_writes_cons_rows_of_mem (o := (i 0).val * 64) _ _ _ _ [] y x (off2_eq i) h0 h1).trans ?_
    refine congrFun ?_ x
    unfold ptrOut
    sl_unfold_run_names
    simp (disch := decide) only [View.readAt_eq_ld, hf0, hf1, hf2, hf3, hf4, hf5, hf6, hf7, hf8, hf9, hf10, View.ld_unit_lit']
    try rfl
  · refine (View.read_writes_cons_rows_of_not_mem (o := (i 0).val * 64) (W := 64) _ _ _ _ [] y (off2_eq i) rfl h).trans ?_
    exact congrFun hf13 y

end Cert.KernelIdeal.Hand

end
-- ==== Proof.Tail.lean ====
/- The run of a one-region program whose windows' contents are known only up to a relation, with what the host lines
   after the region leave stated as a function of contents the arrays may hold. -/
module

public import Idealize.ShloMosaic.Lib.Pipeline.FrameSuffix

@[expose] public section

noncomputable section

namespace Cert.Tail

open Idealize.ShloMosaic Idealize.ShloMosaic.TcCoe Idealize.ShloMosaic.Pipeline Idealize.ShloMosaic.Rounds
open Idealize.SL
open Idealize.SL.BI (sProp bigSep)
open scoped Idealize.SL.BI
open Idealize.SL.BI.BIBase Idealize.SL.BI.Laws Idealize.SL.Sem Idealize.SL.ProofMode
open Idealize.SL.RA

variable {nD : Nat} {τ : Topo} {sig : RefSig} {Val : EltTy → Type} {Λ₀ : Labels}

section Arrays

variable {cfg : Cfg sig Λ₀} {c : Dev nD} [∀ e, Nonempty (Val e)]

local notation "𝕄" => MT nD τ sig Unit Val ℕ (UR sig nD τ) ℕ

/-- The windows' arrays after the first `t` points, each at some contents it may hold then, are the arrays at one
    family of such contents. -/
theorem arraysAt_choose (rd : RDat τ Val Unit ℕ (UR sig nD τ) ℕ cfg c) (t : Nat) :
    (rd.arraysAt t : sProp 𝕄) ⊢ iprop(∃ A, ⌜∀ w, rd.ArrAt w t (A w)⌝ ∗ rd.arrays A) := by
  unfold RDat.arraysAt RDat.arrays
  refine (BI.bigSep_exists_pi Finset.univ (fun w F => iprop(⌜rd.ArrAt w t F⌝
    ∗ (cfg.win w).arr.view.loc (c.tc : Thread nD τ) ↦[(cfg.win w).arr.view.set]{rd.share w} F))).trans ?_
  iintro ⟨%A, H⟩
  ihave H2 := (BI.bigSep_pure_sep Finset.univ (fun w => rd.ArrAt w t (A w))
    (fun w => (cfg.win w).arr.view.loc (c.tc : Thread nD τ) ↦[(cfg.win w).arr.view.set]{rd.share w} A w)) $$ H
  icases H2 with ⟨%hA, H⟩
  iexists A
  isplitr
  · ipureintro; exact fun w => hA w (Finset.mem_univ w)
  · iexact H

omit [∀ e, Nonempty (Val e)] in
/-- Arrays at a family of contents they may hold after `t` points are the arrays after `t` points. -/
theorem arraysAt_of (rd : RDat τ Val Unit ℕ (UR sig nD τ) ℕ cfg c) (t : Nat)
    (A : (w : Fin cfg.W) → Buf Val ((cfg.win w).arr.view.loc (c.tc : Thread nD τ))) (hA : ∀ w, rd.ArrAt w t (A w)) :
    (rd.arrays A : sProp 𝕄) ⊢ rd.arraysAt t := by
  unfold RDat.arraysAt RDat.arrays
  refine BI.bigSep_mono fun w _ => ?_
  show ((cfg.win w).arr.view.loc (c.tc : Thread nD τ) ↦[(cfg.win w).arr.view.set]{rd.share w} A w : sProp 𝕄)
    ⊢ iprop(∃ F, ⌜rd.ArrAt w t F⌝ ∗ (cfg.win w).arr.view.loc (c.tc : Thread nD τ) ↦[(cfg.win w).arr.view.set]{rd.share w} F)
  iintro H
  iexists (A w)
  isplitr
  · ipureintro; exact hA w
  · iexact H

end Arrays

section Run

variable {P : Type} [Fintype P] [DecidableEq P] [∀ e, Nonempty (Val e)]
variable (cfgs : P → Cfg sig Λ₀) (p : P) (kit : LaunchFacts (nD := nD) (τ := τ) cfgs p)
variable (defs₀ : Defs nD τ sig Val Λ₀) (𝒱₀ : Variants)

local notation "𝕄" => MT nD τ sig Unit Val ℕ (UR sig nD τ) ℕ

/-- What the run below leaves on every core: each window's array at contents it may hold after all points, and every
    buffer that is no window's array at what the lines `opss` make of SOME contents the arrays may hold. -/
def Post (rdat : (c : Dev nD) → RDat τ Val Unit ℕ (UR sig nD τ) ℕ (cfgs p) c) (V₀ : Dev nD → Valuation τ sig Val)
    (opss : List (List (HloOp τ sig Val))) (r : PUnit × MemSt nD τ sig Val) : Prop :=
  ∀ c : Dev nD, (∀ w, (rdat c).ArrAt w (cfgs p).N (r.2.mem (((cfgs p).spec w).arr.view.loc (c.tc : Thread nD τ))))
    ∧ ∃ A, (∀ w, (rdat c).ArrAt w (cfgs p).N (A w))
      ∧ ∀ b ∈ restRefsP sig (Prefetch.none) (cfgs p).spec, r.2.mem ((c.tc : Thread nD τ).loc b)
          = StableHlo.after opss.flatten (withArrays (cfgs p).spec c (V₀ c) A) (Proc.devRef .tc b)

include kit in
/-- A program that is host lines, one region, and the host lines `opss`, its region's data relational: it terminates
    with every counter at zero in a state of `Post`. -/
theorem run (rdat : (c : Dev nD) → RDat τ Val Unit ℕ (UR sig nD τ) ℕ (cfgs p) c)
    (m : (ℓ : Loc nD τ sig) → Buf Val ℓ) (g : Dev nD → PrngReg)
    (main : Dev nD → Prog (TpuEff nD τ sig Val (Sig Λ₀ P fun q => ((cfgs q).toPCfg (Val := Val)).Adm) .tc) PUnit)
    (hbody : ∀ c, (rdat c).BodyObligation defs₀ 𝒱₀ () Set.univ)
    (hshare : ∀ c w, (rdat c).share w = fullShare) (howed : ∀ c t, (rdat c).owed t = 0)
    (V₀ : Dev nD → Valuation τ sig Val) (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hA : ∀ c w, (rdat c).A w = V₀ c (Proc.devRef .tc (arrRef (cfgs p).spec w)))
    (hΦ : ∀ c t, (rdat c).Φ t = ΦA (cfgs p).spec c) :
    θ_run (Pipeline.defs (fun q => (cfgs q).toPCfg (Val := Val)) defs₀) (onTc main) (s₀ m g) (fun r => Post cfgs p rdat V₀ opss r ∧ r.2.sem = fun _ => 0) := by
  classical
  let kit₀ : PLaunchFacts₀ (nD := nD) (τ := τ) (fun q => (cfgs q).toPCfg (Val := Val)) p := (kit.toP (Val := Val)).to₀
  let V : (c : Dev nD) → (b : Ref sig .tc) → Buf Val ((c.tc : Thread nD τ).loc b) := fun c b => V₀ c (Proc.devRef .tc b)
  have hq : ∀ c w, ((cfgs p).spec w).isOut = false → (rdat c).q w = shareOf (cfgs p).spec w :=
    fun c w hw => (rdat c).q_eq_shareOf_of_share_full kit.win.arr_inj (hshare c) w hw
  have hself : ∀ c, RDat.familyOf (fun q => (cfgs q).toPCfg (Val := Val)) (fun q => (cfgs q).toPCfg_adm (Val := Val)) p rdat p c = rdat c := fun c => RDat.familyOf_self (fun q => (cfgs q).toPCfg (Val := Val)) (fun q => (cfgs q).toPCfg_adm (Val := Val)) p rdat c
  refine RDat.θ_run_region_pf_tail_quiescent (fun q => (cfgs q).toPCfg (Val := Val)) (fun q => (cfgs q).toPCfg_adm (Val := Val)) (RDat.familyOf (fun q => (cfgs q).toPCfg (Val := Val)) (fun q => (cfgs q).toPCfg_adm (Val := Val)) p rdat) () (kit₀.cellOf_inj (fun q => (cfgs q).toPCfg_adm (Val := Val))) p kit₀.win
    (OwnSemFacts.none (cfgs p).spec) kit₀.pre emb₁ defs₀ 𝒱₀ m g main
    (fun _ => chain (opss.map StableHlo.seq)) (fun c => by rw [hself]; exact hbody c)
    kit₀.block_pos kit₀.arr_whole kit₀.stage_whole (fun c t => by rw [hself]; exact howed c t)
    (G := fun _ => iprop(emp)) (u₀ := initOf (cells (pin (fun q => (cfgs q).toPCfg (Val := Val)) (fun q => (cfgs q).toPCfg_adm (Val := Val))) (kit₀.cellOf_inj (fun q => (cfgs q).toPCfg_adm (Val := Val)))) (launchToks (pin (fun q => (cfgs q).toPCfg (Val := Val)) (fun q => (cfgs q).toPCfg_adm (Val := Val))) (kit₀.cellOf_inj (fun q => (cfgs q).toPCfg_adm (Val := Val)))))
    (hu₀ := ?hu) (V := V) (hmain := hmain)
    (hsplit := fun c => by rw [hself]; exact (rdat c).arrays_split_shared kit₀.sharedIn kit₀.arr_whole (hq c) (V c) _ (hA c))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfgs p).spec c (V c))
    (Z' := fun c => iprop(∃ A, ⌜∀ w, (rdat c).ArrAt w (cfgs p).N (A w)⌝
      ∗ unscopedRestP (Ix := Unit) (Name := ℕ) (U := UR sig nD τ) (Lvl := ℕ) Prefetch.none (cfgs p).spec c
          (fun b => StableHlo.after opss.flatten (withArrays (cfgs p).spec c (V₀ c) A) (Proc.devRef .tc b))))
    (hX := ?hX) (hin := ?hin) (hout := ?hout) (htail := ?htail)
    (QY := fun c s => ∃ A, (∀ w, (rdat c).ArrAt w (cfgs p).N (A w))
      ∧ ∀ b ∈ restRefsP sig Prefetch.none (cfgs p).spec, s.mem ((c.tc : Thread nD τ).loc b)
          = StableHlo.after opss.flatten (withArrays (cfgs p).spec c (V₀ c) A) (Proc.devRef .tc b))
    (hY := ?hY) (hQ := ?hQ)
  case hu =>
    iintro Hu; imodintro
    isplitl [Hu]
    · iapply (show (ownU _ : sProp 𝕄) ⊢ BI.own (emb₁ (initOf (cells (pin (fun q => (cfgs q).toPCfg (Val := Val)) (fun q => (cfgs q).toPCfg_adm (Val := Val))) (kit₀.cellOf_inj (fun q => (cfgs q).toPCfg_adm (Val := Val))))
        (launchToks (pin (fun q => (cfgs q).toPCfg (Val := Val)) (fun q => (cfgs q).toPCfg_adm (Val := Val))) (kit₀.cellOf_inj (fun q => (cfgs q).toPCfg_adm (Val := Val)))))) from .rfl)
      iexact Hu
    · iapply (show (BI.emp : sProp 𝕄) ⊢ bigSep Finset.univ (fun _ : Dev nD => (BI.emp : sProp 𝕄)) from by rw [BI.bigSep_emp_const])
      iempintro
  case hX =>
    intro c
    iintro ⟨HU, -, -, Hp, -⟩; imodintro
    isplitl [Hp]
    · iexists _; iexact Hp
    · iexact HU
  case hin =>
    intro c
    rw [hself, hΦ]; unfold ΦA
    iintro ⟨Hp, -, Hr⟩
    isplitl [Hr] <;> iassumption
  case hout =>
    intro c
    rw [hself, hΦ, ownSems0_none]; unfold ΦA
    iintro ⟨Hr, Hp⟩
    isplitl [Hp]; · iexact Hp
    isplitr; · iempintro
    iexact Hr
  case htail =>
    intro c Q'
    rw [hself]
    iintro ⟨Hk, Hb, Ha, HZ⟩
    ihave Ha' := (arraysAt_choose (rdat c) (cfgs p).N) $$ Ha
    icases Ha' with ⟨%A, %hA', Ha⟩
    have hB : (rdat c).arrays A = arrBufs (cfgs p).spec c (fun b => withArrays (cfgs p).spec c (V₀ c) A (Proc.devRef .tc b)) :=
      ((rdat c).arrBufs_eq_arrays kit₀.sharedIn kit₀.arr_whole (hq c) _ A fun w =>
        (withArrays_arr (cfgs p).spec kit.win.arr_inj c (V₀ c) A w).symm).symm
    iapply (tail_seqs_bufs_b (fun q => (cfgs q).toPCfg (Val := Val)) defs₀ 𝒱₀ Prefetch.none (cfgs p).spec c (V₀ c) A opss hsub hfresh hkeep Q')
    isplitl [Hk]
    · iintro ⟨Hb2, Ha2, Hu⟩
      iapply Hk
      isplitl [Hb2]; · iexact Hb2
      isplitl [Ha2]
      · iapply (arraysAt_of (rdat c) (cfgs p).N A hA')
        iapply (Entails.of_eq hB.symm)
        iexact Ha2
      iexists A
      isplitr
      · ipureintro; exact hA'
      · iexact Hu
    · isplitl [Hb]; · iexact Hb
      isplitl [Ha]; · iapply (Entails.of_eq hB); iexact Ha
      iexact HZ
  case hY =>
    intro c s'
    iintro ⟨-, HZ, HSI⟩
    icases HZ with ⟨%A, %hA', HZ⟩
    unfold unscopedRestP
    ihave HZ' := (pointsTo_read_all (restRefsP sig Prefetch.none (cfgs p).spec) (fun b => (c.tc : Thread nD τ).loc b)
      (fun b => StableHlo.after opss.flatten (withArrays (cfgs p).spec c (V₀ c) A) (Proc.devRef .tc b)) s') $$ [HZ HSI]
    · isplitl [HZ] <;> iassumption
    icases HZ' with ⟨%hZ, HSI⟩
    imodintro
    isplitr
    · ipureintro; exact ⟨A, hA', hZ⟩
    · iexact HSI
  case hQ =>
    intro s h hz
    refine ⟨fun c => ⟨fun w => ?_, (h c).2.2⟩, hz⟩
    have h1 := (h c).1 w
    simpa only [hself] using h1

end Run

end Cert.Tail

end
-- ==== Proof.Run.lean ====
/- The launch of the kernel: what its whole run leaves in the three result arrays, point by point. -/
module

public import proofs.«01_k».proof.Proof.Body
public import proofs.«01_k».proof.Proof.Tail
public import Idealize.ShloMosaic.Lib.Pipeline.DatRel
public import Idealize.ShloMosaic.Lib.Pipeline.ArrRel
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point -/

abbrev ms0_0 (t : Fin cfg0.N) : Memref sig .tc .vmem S4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x200x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S200x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x200 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S4096x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S64x200x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S4096x1 .i32 := win0_13.stage (cfg0.slots t 13)
abbrev hs0_13 (t : Fin cfg0.N) : (ms0_13 t).IsWhole := hstage0_13 ((cfg0.slots t 13).cast nbuf0_13)

/-! ## What each point stores -/

/-- The rows of `h` stored at point `t`. -/
def hBlk (c : Dev nD) (t : Fin cfg0.N) : Vec F S64x128 .f32 :=
  hOut (grid0.coords t) (iblk m c 0 t) (iblk m c 1 t) (iblk m c 2 t) (iblk m c 3 t) (iblk m c 4 t) (iblk m c 5 t)
    (iblk m c 6 t) (iblk m c 7 t) (iblk m c 8 t) (iblk m c 9 t) (iblk m c 10 t)

/-- The block of `new_slots` stored at point `t`. -/
def slotsBlk (c : Dev nD) (t : Fin cfg0.N) : Vec F S64x200x128 .f32 :=
  slotsOut (grid0.coords t) (iblk m c 0 t) (iblk m c 1 t) (iblk m c 2 t) (iblk m c 3 t) (iblk m c 4 t) (iblk m c 5 t)
    (iblk m c 6 t)

/-- The rows of `new_ptr` stored at point `t`. -/
def ptrBlk (c : Dev nD) (t : Fin cfg0.N) : Vec F S64x1 .i32 :=
  ptrOut (grid0.coords t) (iblk m c 0 t) (iblk m c 2 t) (iblk m c 5 t) (iblk m c 6 t)

/-- The buffer of `h` holds every row stored at a point before number `n`. -/
def HRows (c : Dev nD) (n : ℕ) (X : Vec F S4096x128 .f32) : Prop :=
  ∀ s : Fin cfg0.N, s.val < n → ∀ (y : S4096x128.Idx) (x : S64x128.Idx),
    (y 0).val = s.val * 64 + (x 0).val → (y 1).val = (x 1).val → X y = hBlk m c s x

/-- The buffer of `new_ptr` holds every row stored at a point before number `n`. -/
def PRows (c : Dev nD) (n : ℕ) (X : Vec F S4096x1 .i32) : Prop :=
  ∀ s : Fin cfg0.N, s.val < n → ∀ (y : S4096x1.Idx) (x : S64x1.Idx),
    (y 0).val = s.val * 64 + (x 0).val → (y 1).val = (x 1).val → X y = ptrBlk m c s x

/-- The three windows whose contents are stated by a relation: those of the results. -/
def marks : Fin 14 → Bool := fun w => w.val == 11 || w.val == 12 || w.val == 13

/-- What the body leaves in a result's buffer at point `t`. -/
def rel (c : Dev nD) (w : Fin cfg0.W) (t : Fin cfg0.N) :
    (((cfg0.win w).block.Idx → Elt F (cfg0.win w).elt) → Prop) :=
  match w with
  | ⟨11, _⟩ => fun X => HRows m c (t.val + 1) X
  | ⟨12, _⟩ => fun X => X = slotsBlk m c t
  | ⟨13, _⟩ => fun X => PRows m c (t.val + 1) X
  | _ => fun _ => True

/-- The proof data: the arrays as the region finds them, each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

/-- The data's arrays are what the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- The data with the results' buffers held to `rel`. -/
abbrev rdat (c : Dev nD) := (dats (F := F) m 0 c).toRRel marks (rel m c)

/-- At every point the buffer of `h` is found with the rows of all earlier points. -/
theorem finds11 (c : Dev nD) (t : Fin cfg0.N) (X : Vec F S4096x128 .f32) (h : (rdat m c).Finds 11 t X) :
    HRows m c t.val X := by
  by_cases ht : t.val = 0
  · intro s hs; omega
  · have hfe : (cfg0.win 11).fetch t = false := rfl
    rcases (Pipeline.RDat.finds_of_pos (rdat m c) hfe ht X).mp h with hfl | hL
    · have h63 : (t.val - 1) % 64 = 63 := (flush0_11 _).mp hfl
      have := t.isLt
      have hN : cfg0.N = 64 := rfl
      omega
    · have h' := (dats (F := F) m 0 c).toRRel_leaves (fgt := marks) (Rl := rel m c) (w := 11) rfl hL
      have e : t.val - 1 + 1 = t.val := by omega
      have h2 : HRows m c (t.val - 1 + 1) X := h'
      rw [e] at h2; exact h2

/-- At every point the buffer of `new_ptr` is found with the rows of all earlier points. -/
theorem finds13 (c : Dev nD) (t : Fin cfg0.N) (X : Vec F S4096x1 .i32) (h : (rdat m c).Finds 13 t X) :
    PRows m c t.val X := by
  by_cases ht : t.val = 0
  · intro s hs; omega
  · have hfe : (cfg0.win 13).fetch t = false := rfl
    rcases (Pipeline.RDat.finds_of_pos (rdat m c) hfe ht X).mp h with hfl | hL
    · have h63 : (t.val - 1) % 64 = 63 := (flush0_13 _).mp hfl
      have := t.isLt
      have hN : cfg0.N = 64 := rfl
      omega
    · have h' := (dats (F := F) m 0 c).toRRel_leaves (fgt := marks) (Rl := rel m c) (w := 13) rfl hL
      have e : t.val - 1 + 1 = t.val := by omega
      have h2 : PRows m c (t.val - 1 + 1) X := h'
      rw [e] at h2; exact h2

/-- The grid has one axis, so a point's coordinate is its number. -/
theorem coords_val (t : Fin cfg0.N) : ((grid0.coords t) 0).val = t.val := by
  have h : t.val < 64 := t.isLt
  have e := Pipeline.Grid.coords_val (G := grid0) t 0 (S := 1) (B := 64) rfl rfl
  rw [e]; omega

/-- Storing point `t`'s rows of `h` over a buffer that holds the earlier points' rows. -/
theorem hRows_step (c : Dev nD) (t : Fin cfg0.N) (d X : Vec F S4096x128 .f32) (hd : HRows m c t.val d)
    (h1 : ∀ (y : S4096x128.Idx) (x : S64x128.Idx), (y 0).val = ((grid0.coords t) 0).val * 64 + (x 0).val → (y 1).val = (x 1).val → X y = hBlk m c t x)
    (h2 : ∀ y : S4096x128.Idx, ((y 0).val < ((grid0.coords t) 0).val * 64 ∨ ((grid0.coords t) 0).val * 64 + 64 ≤ (y 0).val) → X y = d y) :
    HRows m c (t.val + 1) X := by
  intro s hs y x hy0 hy1
  rw [coords_val] at h1 h2
  rcases Nat.lt_succ_iff_lt_or_eq.mp hs with hlt | heq
  · have hx : (x 0).val < 64 := (x 0).isLt
    rw [h2 y (by left; omega)]
    exact hd s hlt y x hy0 hy1
  · obtain rfl : s = t := Fin.ext heq
    exact h1 y x hy0 hy1

/-- Storing point `t`'s rows of `new_ptr` over a buffer that holds the earlier points' rows. -/
theorem pRows_step (c : Dev nD) (t : Fin cfg0.N) (d X : Vec F S4096x1 .i32) (hd : PRows m c t.val d)
    (h1 : ∀ (y : S4096x1.Idx) (x : S64x1.Idx), (y 0).val = ((grid0.coords t) 0).val * 64 + (x 0).val → (y 1).val = (x 1).val → X y = ptrBlk m c t x)
    (h2 : ∀ y : S4096x1.Idx, ((y 0).val < ((grid0.coords t) 0).val * 64 ∨ ((grid0.coords t) 0).val * 64 + 64 ≤ (y 0).val) → X y = d y) :
    PRows m c (t.val + 1) X := by
  intro s hs y x hy0 hy1
  rw [coords_val] at h1 h2
  rcases Nat.lt_succ_iff_lt_or_eq.mp hs with hlt | heq
  · have hx : (x 0).val < 64 := (x 0).isLt
    rw [h2 y (by left; omega)]
    exact hd s hlt y x hy0 hy1
  · obtain rfl : s = t := Fin.ext heq
    exact h1 y x hy0 hy1

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ Y, ⌜(rdat m c).Finds 11 t Y⌝ ∗ owns (c : Thread nD τ) (ms0_11 t) fullShare Y)
    ∗ (∃ Y, ⌜(rdat m c).Finds 12 t Y⌝ ∗ owns (c : Thread nD τ) (ms0_12 t) fullShare Y)
    ∗ (∃ Y, ⌜(rdat m c).Finds 13 t Y⌝ ∗ owns (c : Thread nD τ) (ms0_13 t) fullShare Y))

/-- What the body returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ X, ⌜HRows m c (t.val + 1) X⌝ ∗ owns (c : Thread nD τ) (ms0_11 t) fullShare X)
    ∗ (∃ X, ⌜X = slotsBlk m c t⌝ ∗ owns (c : Thread nD τ) (ms0_12 t) fullShare X)
    ∗ (∃ X, ⌜PRows m c (t.val + 1) X⌝ ∗ owns (c : Thread nD τ) (ms0_13 t) fullShare X))

set_option maxHeartbeats 1200000 in
/-- The body at any point, from the rows of the earlier points to those up to its own. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, %hd11, H11⟩, ⟨%d12, -, H12⟩, ⟨%d13, %hd13, H13⟩⟩
  iapply (bodyRun c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) d11 d13 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexact H13
  iintro ⟨H0, H1, H2, H3, H4, H5, H6, H7, H8, H9, H10, ⟨%X11, %hX11, H11⟩, H12, ⟨%X13, %hX13, H13⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists X11; isplitr
    · ipureintro; exact hRows_step m c t d11 X11 (finds11 m c t d11 hd11) hX11.1 hX11.2
    · iexact H11
  isplitl [H12]
  · iexists _; isplitr; swap; · iexact H12
    ipureintro; rfl
  iexists X13; isplitr
  · ipureintro; exact pRows_step m c t d13 X13 (finds13 m c t d13 hd13) hX13.1 hX13.2
  · iexact H13

/-- The body table's row at point `t` is the body as spelt above. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) :
    Pipeline.BodyObligationRel (dats (F := F) m 0 c) (defs₀ (F := F)) Variants.none () Set.univ marks (rel m c) := fun t => by
  rw [bigSep_W0, bigSep_W0, defs₀_row]
  exact triple_restated (sound_body m c t) rfl .rfl fun _ => .rfl

set_option backward.isDefEq.respectTransparency.types false in
set_option maxHeartbeats 800000 in
/-- The launch: the program terminates with every counter at zero, each array at contents that the points' stores may
    have left. -/
theorem run_main : θ_run defs (onTc (τ := τ) (main (F := F))) (s₀ m ρ)
    (fun r => Cert.Tail.Post cfgs 0 (rdat m) (V0 m) [hostOps1] r ∧ r.2.sem = fun _ => 0) :=
  Cert.Tail.run cfgs (0 : Fin 1) launch0 defs₀ Variants.none (rdat m) m ρ main
    (fun c => (body_obligation m c).toRRel) (fun c => (dats m 0 c).share_full fun _ => rfl)
    (fun _ _ => rfl) (V0 m) [hostOps1] sfx_sub sfx_fresh sfx_keeps
    (hmain m Variants.none) (A_eq m) (fun _ _ => rfl)

end Cert.KernelIdeal.Hand

end
-- ==== Proof.Final.lean ====
/- What the kernel's run leaves: the arguments as launched, and the three results read off the points' stores. -/
module

public import proofs.«01_k».proof.Proof.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An input array ends as the region found it. -/
theorem arr_in {r : PUnit × MemSt nD τ sig (Elt F)} (h : Cert.Tail.Post cfgs 0 (rdat m) (V0 m) [hostOps1] r) (c : Dev nD)
    (w : Fin cfg0.W) (hin : (cfg0.win w).isOut = false) :
    r.2.mem ((cfg0.spec w).arr.view.loc (c.tc : Thread nD τ)) = (dats m 0 c).A w := by
  have h1 := (h c).1 w
  rw [(rdat m c).ArrAt_in w hin] at h1
  exact h1

/-- A buffer that is unscoped and no window's array is one of the rest. -/
theorem mem_rest (b : Ref sig .tc) (hs : b.isScoped = false) (hb : ∀ w, Pipeline.arrRef spec0 w ≠ b) :
    b ∈ Pipeline.restRefsP sig Pipeline.Prefetch.none cfg0.spec := by
  have h := Pipeline.mem_restRefs_of (win := spec0) b hs hb
  exact Finset.mem_sdiff.mpr ⟨h, by simp [Pipeline.Prefetch.none]⟩

/-- Neither the region nor the lines around it write `main_arg2`. -/
theorem rest_arg2 (c : Dev nD) (A : (w : Fin cfg0.W) → Buf (Elt F) ((cfg0.spec w).arr.view.loc (c.tc : Thread nD τ))) :
    StableHlo.after (List.flatten [hostOps1]) (Pipeline.withArrays cfg0.spec c (V0 m c) A) (Proc.devRef .tc main_arg2)
      = m ((c : Thread nD τ).loc main_arg2) := by
  rw [StableHlo.after_of_forall_not_mem (b := Proc.devRef .tc main_arg2) _ _ (List.forall_iff_forall_mem.mp (by
      simp only [hostOps1, List.flatten_cons, List.flatten_nil, List.append_nil, List.Forall, StableHlo.reshape_writes,
        Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- Neither the region nor the lines around it write `main_arg4`. -/
theorem rest_arg4 (c : Dev nD) (A : (w : Fin cfg0.W) → Buf (Elt F) ((cfg0.spec w).arr.view.loc (c.tc : Thread nD τ))) :
    StableHlo.after (List.flatten [hostOps1]) (Pipeline.withArrays cfg0.spec c (V0 m c) A) (Proc.devRef .tc main_arg4)
      = m ((c : Thread nD τ).loc main_arg4) := by
  rw [StableHlo.after_of_forall_not_mem (b := Proc.devRef .tc main_arg4) _ _ (List.forall_iff_forall_mem.mp (by
      simp only [hostOps1, List.flatten_cons, List.flatten_nil, List.append_nil, List.Forall, StableHlo.reshape_writes,
        Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- Neither the region nor the lines around it write `main_arg6`. -/
theorem rest_arg6 (c : Dev nD) (A : (w : Fin cfg0.W) → Buf (Elt F) ((cfg0.spec w).arr.view.loc (c.tc : Thread nD τ))) :
    StableHlo.after (List.flatten [hostOps1]) (Pipeline.withArrays cfg0.spec c (V0 m c) A) (Proc.devRef .tc main_arg6)
      = m ((c : Thread nD τ).loc main_arg6) := by
  rw [StableHlo.after_of_forall_not_mem (b := Proc.devRef .tc main_arg6) _ _ (List.forall_iff_forall_mem.mp (by
      simp only [hostOps1, List.flatten_cons, List.flatten_nil, List.append_nil, List.Forall, StableHlo.reshape_writes,
        Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-- Neither the region nor the lines around it write `main_arg8`. -/
theorem rest_arg8 (c : Dev nD) (A : (w : Fin cfg0.W) → Buf (Elt F) ((cfg0.spec w).arr.view.loc (c.tc : Thread nD τ))) :
    StableHlo.after (List.flatten [hostOps1]) (Pipeline.withArrays cfg0.spec c (V0 m c) A) (Proc.devRef .tc main_arg8)
      = m ((c : Thread nD τ).loc main_arg8) := by
  rw [StableHlo.after_of_forall_not_mem (b := Proc.devRef .tc main_arg8) _ _ (List.forall_iff_forall_mem.mp (by
      simp only [hostOps1, List.flatten_cons, List.flatten_nil, List.append_nil, List.Forall, StableHlo.reshape_writes,
        Finset.mem_singleton]
      exact StableHlo.devRef_ne_of_ne (by decide))),
    Pipeline.withArrays_of_ne _ c (V0 m c) _ main_arg8 (by exact (by decide : ∀ w, Pipeline.arrRef spec0 w ≠ main_arg8))]
  exact V_main_arg8 m c

/-- Neither the region nor the lines around it write `main_arg10`. -/
theorem rest_arg10 (c : Dev nD) (A : (w : Fin cfg0.W) → Buf (Elt F) ((cfg0.spec w).arr.view.loc (c.tc : Thread nD τ))) :
    StableHlo.after (List.flatten [hostOps1]) (Pipeline.withArrays cfg0.spec c (V0 m c) A) (Proc.devRef .tc main_arg10)
      = m ((c : Thread nD τ).loc main_arg10) := by
  rw [StableHlo.after_of_forall_not_mem (b := Proc.devRef .tc main_arg10) _ _ (List.forall_iff_forall_mem.mp (by
      simp only [hostOps1, List.flatten_cons, List.flatten_nil, List.append_nil, List.Forall, StableHlo.reshape_writes,
        Finset.mem_singleton]
      exact StableHlo.devRef_ne_of_ne (by decide))),
    Pipeline.withArrays_of_ne _ c (V0 m c) _ main_arg10 (by exact (by decide : ∀ w, Pipeline.arrRef spec0 w ≠ main_arg10))]
  exact V_main_arg10 m c

/-- The arguments end as launched. -/
theorem args_kept {r : PUnit × MemSt nD τ sig (Elt F)} (h : Cert.Tail.Post cfgs 0 (rdat m) (V0 m) [hostOps1] r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  obtain ⟨-, A, -, hA⟩ := h c
  exact ⟨(arr_in m h c 0 rfl).trans ((A_eq m c 0).trans (V_main_arg0 m c)),
      (arr_in m h c 1 rfl).trans ((A_eq m c 1).trans (V_main_arg1 m c)),
      (hA main_arg2 (mem_rest main_arg2 (by decide) (by decide))).trans (rest_arg2 m c A),
      (arr_in m h c 3 rfl).trans ((A_eq m c 3).trans (V_main_arg3 m c)),
      (hA main_arg4 (mem_rest main_arg4 (by decide) (by decide))).trans (rest_arg4 m c A),
      (arr_in m h c 5 rfl).trans ((A_eq m c 5).trans (V_main_arg5 m c)),
      (hA main_arg6 (mem_rest main_arg6 (by decide) (by decide))).trans (rest_arg6 m c A),
      (arr_in m h c 7 rfl).trans ((A_eq m c 7).trans (V_main_arg7 m c)),
      (hA main_arg8 (mem_rest main_arg8 (by decide) (by decide))).trans (rest_arg8 m c A),
      (arr_in m h c 9 rfl).trans ((A_eq m c 9).trans (V_main_arg9 m c)),
      (hA main_arg10 (mem_rest main_arg10 (by decide) (by decide))).trans (rest_arg10 m c A)⟩

/-- The frame: from any memory with zero counters the program terminates with every argument as launched and every
    counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨args_kept m h.1, h.2⟩) (run_main m ρ)

/-! ## The results -/

/-- The last point. -/
abbrev tLast : Fin cfg0.N := ⟨63, by decide⟩

/-- `h` after the run: any array that agrees with every point's stores. -/
theorem h_final {r : PUnit × MemSt nD τ sig (Elt F)} (h : Cert.Tail.Post cfgs 0 (rdat m) (V0 m) [hostOps1] r) (c : Dev nD)
    (G : Vec F S4096x128 .f32) (hG : ∀ (t : Fin cfg0.N) (y : S4096x128.Idx) (x : S64x128.Idx),
      (y 0).val = t.val * 64 + (x 0).val → (y 1).val = (x 1).val → hBlk m c t x = G y) :
    r.2.mem ((c.tc : Thread nD τ).loc main_v5_0) = G := by
  obtain ⟨X, hX, hE⟩ := Pipeline.RDat.ArrAt.emb_eq_of_wholeAt ((h c).1 11) (t₀ := tLast) (by decide +kernel)
  have hR : HRows m c 64 X := (dats (F := F) m 0 c).toRRel_leaves (fgt := marks) (Rl := rel m c) (w := 11) rfl hX
  funext y
  have e1 : r.2.mem ((c.tc : Thread nD τ).loc main_v5_0) y = X y := hE y
  rw [e1]
  have hy : (y 0).val < 4096 := (y 0).isLt
  have ht : (y 0).val / 64 < 64 := by omega
  refine (hR ⟨(y 0).val / 64, ht⟩ ht y (fun | 0 => ⟨(y 0).val % 64, by show _ < 64; omega⟩ | 1 => y 1) ?_ rfl).trans
    (hG ⟨(y 0).val / 64, ht⟩ y _ ?_ rfl)
  · show (y 0).val = (y 0).val / 64 * 64 + (y 0).val % 64; omega
  · show (y 0).val = (y 0).val / 64 * 64 + (y 0).val % 64; omega

/-- `new_slots` after the run: any array that agrees with every point's block. -/
theorem slots_final {r : PUnit × MemSt nD τ sig (Elt F)} (h : Cert.Tail.Post cfgs 0 (rdat m) (V0 m) [hostOps1] r) (c : Dev nD)
    (G : Vec F S4096x200x128 .f32) (hG : ∀ (t : Fin cfg0.N) (y : S4096x200x128.Idx) (x : S64x200x128.Idx),
      (y 0).val = t.val * 64 + (x 0).val → (y 1).val = (x 1).val → (y 2).val = (x 2).val → slotsBlk m c t x = G y) :
    r.2.mem ((c.tc : Thread nD τ).loc main_v5_1) = G := by
  obtain ⟨X, hX, hA⟩ := Pipeline.RDat.ArrAt.exists_exact ((h c).1 12)
  refine (hA (Function.update (fun _ _ _ => Classical.arbitrary _) 12 X) fun _ _ _ => by rw [Function.update_self]).trans ?_
  refine Pipeline.Dat.arrAt_eq_of_covers ((rdat m c).withAfter (Function.update (fun _ _ _ => Classical.arbitrary _) 12 X)) 12 G (by decide +kernel) fun t hf y => ?_
  rw [Pipeline.RDat.withAfter_after, Function.update_self]
  have hb : X t = slotsBlk m c t :=
    (dats (F := F) m 0 c).toRRel_leaves (fgt := marks) (Rl := rel m c) (w := 12) rfl (hX t t.isLt hf)
  rw [hb]
  have hi : ∀ a, (cfg0.win 12).index t a = (![t.val, 0, 0] : Fin 3 → ℕ) a :=
    (by decide +kernel : ∀ t : Fin cfg0.N, ∀ a, (cfg0.win 12).index t a = (![t.val, 0, 0] : Fin 3 → ℕ) a) t
  refine hG t _ y ?_ ?_ ?_
  · blk_simp [hi]
  · blk_simp [hi]
  · blk_simp [hi]

/-- `new_ptr` after the run: any vector that agrees with every point's stores. -/
theorem ptr_final {r : PUnit × MemSt nD τ sig (Elt F)} (h : Cert.Tail.Post cfgs 0 (rdat m) (V0 m) [hostOps1] r) (c : Dev nD)
    (G : Vec F S4096 .i32) (hG : ∀ (t : Fin cfg0.N) (y : S4096.Idx) (x : S64x1.Idx),
      (y 0).val = t.val * 64 + (x 0).val → ptrBlk m c t x = G y) :
    r.2.mem ((c.tc : Thread nD τ).loc main_v6) = G := by
  obtain ⟨-, A, hA, hR⟩ := h c
  obtain ⟨X, hX, hE⟩ := Pipeline.RDat.ArrAt.emb_eq_of_wholeAt (hA 13) (t₀ := tLast) (by decide +kernel)
  have hP : PRows m c 64 X := (dats (F := F) m 0 c).toRRel_leaves (fgt := marks) (Rl := rel m c) (w := 13) rfl hX
  refine (hR main_v6 (mem_rest main_v6 (by decide) (by decide))).trans ?_
  have e6 : StableHlo.after (List.flatten [hostOps1]) (Pipeline.withArrays cfg0.spec c (V0 m c) A) (Proc.devRef .tc main_v6)
      = shapeCast S4096 (A 13) shapeCasts_S4096x1_S4096 := by
    rw [List.flatten_singleton]
    after_results
    exact congrArg (fun z : Vec F S4096x1 .i32 => shapeCast S4096 z shapeCasts_S4096x1_S4096)
      (Pipeline.withArrays_arr cfg0.spec launch0.win.arr_inj c (V0 m c) A 13)
  rw [e6]
  funext y
  have hy : (y 0).val < 4096 := (y 0).isLt
  have ht : (y 0).val / 64 < 64 := by omega
  have e1 : shapeCast S4096 (A 13) shapeCasts_S4096x1_S4096 y = A 13 (fun | 0 => ⟨(y 0).val, hy⟩ | 1 => (0 : Fin 1)) := by
    refine congrArg (A 13) (Shape.reshapeEquiv_eq_of_rowMajor shapeCasts_S4096x1_S4096 ?_)
    rw [Shape.rowMajor_val_two, Shape.rowMajor_val_one]
    show (y 0).val * 1 + 0 = (y 0).val
    omega
  rw [e1]
  refine (hE _).trans ?_
  refine (hP ⟨(y 0).val / 64, ht⟩ ht _ (fun | 0 => ⟨(y 0).val % 64, by show _ < 64; omega⟩ | 1 => (0 : Fin 1)) ?_ rfl).trans
    (hG ⟨(y 0).val / 64, ht⟩ y _ ?_)
  · show (y 0).val = (y 0).val / 64 * 64 + (y 0).val % 64; omega
  · show (y 0).val = (y 0).val / 64 * 64 + (y 0).val % 64; omega

end Cert.KernelIdeal.Hand

end
-- ==== Proof.Blocks.lean ====
/- What a grid point reads: each input's block at a point, and the rows the body loads, element by element in the
   arguments. -/
module

public import proofs.«01_k».proof.Proof.Body
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ) (c : Dev nD) (t : Fin cfg0.N)

/-- Row `r` of point `t`'s block, as a row of the whole array. -/
abbrev row (t : Fin cfg0.N) (r : Fin 64) : Fin 4096 := ⟨t.val * 64 + r.val, by
  have h : t.val < 64 := t.isLt
  have := r.isLt
  omega⟩

/-- Where the windows' blocks stand at point `t`: the slots' at the point's number, every other at the start. -/
theorem idx : ∀ t : Fin grid0.N, win0_0.index t = ![0, 0] ∧ win0_1.index t = ![t.val, 0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] := by
  decide +kernel

/-- The reshaped `main_arg2` at the region's start. -/
theorem V_v0 : V m c main_v0 = shapeCast S4096x1 (m ((c : Thread nD τ).loc main_arg2)) shapeCasts_S4096_S4096x1 := by
  funext i
  entry_read
  rfl

/-- The reshaped `main_arg4` at the region's start. -/
theorem V_v1 : V m c main_v1 = shapeCast S1x128 (m ((c : Thread nD τ).loc main_arg4)) shapeCasts_S128_S1x128 := by
  funext i
  entry_read
  rfl

/-- The reshaped `main_arg6` at the region's start. -/
theorem V_v2 : V m c main_v2 = shapeCast S1x1 (m ((c : Thread nD τ).loc main_arg6)) shapeCasts_S1_S1x1 := by
  funext i
  entry_read
  rfl

/-- The reshaped `main_arg8` at the region's start. -/
theorem V_v3 : V m c main_v3 = shapeCast S1x200 (m ((c : Thread nD τ).loc main_arg8)) shapeCasts_S200_S1x200 := by
  funext i
  entry_read
  rfl

/-- The reshaped `main_arg10` at the region's start. -/
theorem V_v4 : V m c main_v4 = shapeCast S1x128 (m ((c : Thread nD τ).loc main_arg10)) shapeCasts_S128_S1x128 := by
  funext i
  entry_read
  rfl

/-- Input 0's block at a point: `x`, whole. -/
theorem blk0 (b : Fin 4096) (d : Fin 128) : iblk m c 0 t (ix2 b d) = m ((c : Thread nD τ).loc main_arg0) (ix2 b d) := by
  blk_ext [iblk, V, idx t]

/-- Input 1's block at a point: 64 rows of `slots`, from the point's first row. -/
theorem blk1 (r : Fin 64) (s : Fin 200) (d : Fin 128) :
    iblk m c 1 t (ix3 r s d) = m ((c : Thread nD τ).loc main_arg1) (ix3 (row t r) s d) := by
  blk_ext [iblk, V, idx t]

/-- Input 2's block at a point: the pointers, one to a row. -/
theorem blk2 (b : Fin 4096) : iblk m c 2 t (ix2 b 0) = m ((c : Thread nD τ).loc main_arg2) (ix1 b) := by
  have h : iblk m c 2 t (ix2 b 0) = V m c main_v0 (ix2 b 0) := by
    blk_ext [iblk, idx t]
  rw [h, V_v0]
  pointwise

/-- Input 3's block at a point: the value weights, whole. -/
theorem blk3 (e d : Fin 128) : iblk m c 3 t (ix2 e d) = m ((c : Thread nD τ).loc main_arg3) (ix2 e d) := by
  blk_ext [iblk, V, idx t]

/-- Input 4's block at a point: the value bias, as one row. -/
theorem blk4 (d : Fin 128) : iblk m c 4 t (ix2 0 d) = m ((c : Thread nD τ).loc main_arg4) (ix1 d) := by
  have h : iblk m c 4 t (ix2 0 d) = V m c main_v1 (ix2 0 d) := by
    blk_ext [iblk, idx t]
  rw [h, V_v1]
  pointwise

/-- Input 5's block at a point: the event weights, whole. -/
theorem blk5 (d : Fin 128) : iblk m c 5 t (ix2 0 d) = m ((c : Thread nD τ).loc main_arg5) (ix2 0 d) := by
  blk_ext [iblk, V, idx t]

/-- Input 6's block at a point: the event bias, its one element. -/
theorem blk6 : iblk m c 6 t (ix2 0 0) = m ((c : Thread nD τ).loc main_arg6) (ix1 0) := by
  have h : iblk m c 6 t (ix2 0 0) = V m c main_v2 (ix2 0 0) := by
    blk_ext [iblk, idx t]
  rw [h, V_v2]
  pointwise

/-- Input 7's block at a point: the positional rows, whole. -/
theorem blk7 (s : Fin 200) (d : Fin 128) : iblk m c 7 t (ix2 s d) = m ((c : Thread nD τ).loc main_arg7) (ix2 s d) := by
  blk_ext [iblk, V, idx t]

/-- Input 8's block at a point: the raw slot weights, as one row. -/
theorem blk8 (s : Fin 200) : iblk m c 8 t (ix2 0 s) = m ((c : Thread nD τ).loc main_arg8) (ix1 s) := by
  have h : iblk m c 8 t (ix2 0 s) = V m c main_v3 (ix2 0 s) := by
    blk_ext [iblk, idx t]
  rw [h, V_v3]
  pointwise

/-- Input 9's block at a point: the projection weights, whole. -/
theorem blk9 (e d : Fin 128) : iblk m c 9 t (ix2 e d) = m ((c : Thread nD τ).loc main_arg9) (ix2 e d) := by
  blk_ext [iblk, V, idx t]

/-- Input 10's block at a point: the projection bias, as one row. -/
theorem blk10 (d : Fin 128) : iblk m c 10 t (ix2 0 d) = m ((c : Thread nD τ).loc main_arg10) (ix1 d) := by
  have h : iblk m c 10 t (ix2 0 d) = V m c main_v4 (ix2 0 d) := by
    blk_ext [iblk, idx t]
  rw [h, V_v4]
  pointwise

/-- The rows of `x` that the body loads at point `t`. -/
theorem xRows_apply (i : grid0.Coords) (hi : (i 0).val = t.val) (x0 : Vec F S4096x128 .f32) (r : Fin 64) (d : Fin 128) :
    xRows i x0 (ix2 r d) = x0 (ix2 (row t r) d) := by
  unfold xRows
  rw [View.ld_apply]
  refine congrArg x0 (funext fun a => Fin.ext ?_)
  match a with
  | 0 => show k0_off1 i 0 + 1 * r.val = _; rw [off1_eq, hi]; simp
  | 1 => show k0_off1 i 1 + 1 * d.val = _; rw [off1_eq]; simp

/-- The pointers that the body loads at point `t`. -/
theorem ptrRows_apply (i : grid0.Coords) (hi : (i 0).val = t.val) (x2 : Vec F S4096x1 .i32) (r : Fin 64) :
    ptrRows i x2 (ix2 r 0) = x2 (ix2 (row t r) 0) := by
  unfold ptrRows
  rw [View.ld_apply]
  refine congrArg x2 (funext fun a => Fin.ext ?_)
  match a with
  | 0 => show k0_off2 i 0 + 1 * r.val = _; rw [off2_eq, hi]; simp
  | 1 => show k0_off2 i 1 + 1 * 0 = _; rw [off2_eq]; simp

end Cert.KernelIdeal.Hand

end
-- ==== Proof.KerVal.lean ====
/- What one grid point of the kernel computes, element by element, from its blocks. -/
module

public import proofs.«01_k».proof.Proof.Gen.KernelIdeal.Skeleton
public import proofs.«01_k».proof.Proof.Math
public import Idealize.ShloMosaic.Lib.Pointwise
public import Idealize.ShloMosaic.PureOps.Ideal

@[expose] public section

set_option maxRecDepth 16384

noncomputable section

namespace Cert.KernelIdeal.Hand

open Cert.KernelIdeal Cert.KernelIdeal.Gen
open Idealize.ShloMosaic

/-- The gate of the block's row `r`. -/
theorem gateK_apply (x : Vec Ideal S64x128 .f32) (we : Vec Ideal S1x128 .f32) (be : Vec Ideal S1x1 .f32) (r : Fin 64) :
    k0_pay1 x we be (ix2 r 0) = Cell.gate (∑ k, x (ix2 r k) * we (ix2 0 k) + be (ix2 0 0)) := by
  pointwise [k0_pay1]
  rfl

/-- The block of `new_slots` at an element: the row's value if this is the row's slot and the gate is open. -/
theorem slotsK_apply (x : Vec Ideal S64x128 .f32) (we : Vec Ideal S1x128 .f32) (be : Vec Ideal S1x1 .f32)
    (wv : Vec Ideal S128x128 .f32) (bv : Vec Ideal S1x128 .f32) (slots : Vec Ideal S64x200x128 .f32)
    (ptr : Vec Ideal S64x1 .i32) (r : Fin 64) (s : Fin 200) (d : Fin 128) :
    k0_pay3 x we be wv bv slots ptr (ix3 r s d)
      = if ptr (ix2 r 0) = BitVec.ofNat 32 s.val ∧ k0_pay1 x we be (ix2 r 0) = 1#1
        then ∑ k, x (ix2 r k) * wv (ix2 d k) + bv (ix2 0 d) else slots (ix3 r s d) := by
  pointwise [k0_pay3, k0_pay2]
  refine ite_congr (propext ?_) (fun _ => rfl) fun _ => rfl
  rw [Cell.half_lt_bit, Cell.pick_bit]

/-- The pointers of the block's row `r` after the step. -/
theorem ptrK_apply (x : Vec Ideal S64x128 .f32) (we : Vec Ideal S1x128 .f32) (be : Vec Ideal S1x1 .f32)
    (ptr : Vec Ideal S64x1 .i32) (r : Fin 64) :
    k0_pay5 (k0_pay1 x we be) (k0_pay2 (F := Ideal) ptr) (ix2 r 0) = Cell.step (k0_pay1 x we be (ix2 r 0)) (ptr (ix2 r 0)) := by
  pointwise [k0_pay5, k0_pay2]
  rfl

/-- The block of `h` at an element, the maximum of the raw weights being finite: the slots' and the positional rows'
    sums, weighted and projected. -/
theorem hK_apply (ns : FVec Ideal S64x200x128 .f32) (sw : Vec Ideal S1x200 .f32) (pos : Vec Ideal S200x128 .f32)
    (wp : Vec Ideal S128x128 .f32) (bp : Vec Ideal S1x128 .f32) (hb : Cell.top (fun k => sw (ix2 0 k)) ≠ ⊥)
    (ht : Cell.top (fun k => sw (ix2 0 k)) ≠ ⊤) (r : Fin 64) (o : Fin 128) :
    k0_pay4 ns sw pos wp bp (ix2 r o)
      = ∑ d, (∑ s, (ns (ix3 r s d) + pos (ix2 s d)) * Cell.weight (fun k => sw (ix2 0 k)) s) * wp (ix2 o d) + bp (ix2 0 o) := by
  have hf : ∀ d : Fin 128, _ := fun d => Cell.fuse (fun k => sw (ix2 0 k)) (fun s => ns (ix3 r s d)) (fun s => pos (ix2 s d)) hb ht
  simp only [Cell.weight, Cell.top] at hf ⊢
  pointwise [k0_pay4]
  simp only [← hf, Finset.sum_const, Finset.card_univ, Fintype.card_fin, one_smul]

end Cert.KernelIdeal.Hand

end
-- ==== Proof.RefVal.lean ====
/- What the reference computes, element by element: its operations gathered under a few names, and each name read at an
   index. -/
module

public import proofs.«01_k».proof.Proof.Gen.ReferenceIdeal.Run
public import proofs.«01_k».proof.Proof.Math
public import Idealize.ShloMosaic.Lib.Routing.OpsSet
public import Idealize.ShloMosaic.Lib.Pointwise
public import Idealize.ShloMosaic.PureOps.Ideal

@[expose] public section

set_option maxRecDepth 16384

noncomputable section

namespace Cert.ReferenceIdeal.Hand

open Cert.ReferenceIdeal Cert.ReferenceIdeal.Gen
open Idealize.ShloMosaic

/-! ## The reference's operations under names -/

/-- The gates: the logistic function of the scores against the threshold. -/
def gateR (x : FVec Ideal S4096x128 .f32) (we : FVec Ideal S1x128 .f32) (be : FVec Ideal S1 .f32) : IVec S4096x1 1 :=
  cmpf .ogt (Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x128_S128x1_S4096x1_1_0_0_1_n_n none x (transpose S128x1 [1, 0] we transposes_S1x128_S128x1_1_0)) (broadcastInDim S4096x1 ![0, 1] bcast_S1x1_S4096x1_0_1 (broadcastInDim S1x1 ![1] bcast_S1_S1x1_1 be))))))) (broadcastInDim S4096x1 ![] bcast_S_S4096x1 (constant S_ .f32 0x3F59999A#32))

/-- The values to be written. -/
def valueR (x : FVec Ideal S4096x128 .f32) (wv : FVec Ideal S128x128 .f32) (bv : FVec Ideal S128 .f32) : FVec Ideal S4096x128 .f32 :=
  addf (Host.dotGeneral dot_S4096x128_S128x128_S4096x128_1_0_0_1_n_n none x (transpose S128x128 [1, 0] wv transposes_S128x128_S128x128_1_0)) (broadcastInDim S4096x128 ![0, 1] bcast_S1x128_S4096x128_0_1 (broadcastInDim S1x128 ![1] bcast_S128_S1x128_1 bv))

/-- Where each value goes: its row, and its pointer. -/
def idxR (ptr : IVec S4096 32) : IVec S4096x2 32 :=
 concatenate S4096x2 1 [⟨S4096x1, (broadcastInDim S4096x1 ![0] bcast_S4096_S4096x1_0 (select (cmpi .slt (iotaInDim S4096 32 0) (broadcastInDim S4096 ![] bcast_S_S4096 (constantI S_ 32 0#32))) (addi (iotaInDim S4096 32 0) (broadcastInDim S4096 ![] bcast_S_S4096 (constantI S_ 32 4096#32))) (iotaInDim S4096 32 0)))⟩, ⟨S4096x1, (broadcastInDim S4096x1 ![0] bcast_S4096_S4096x1_0 (select (cmpi .slt ptr (broadcastInDim S4096 ![] bcast_S_S4096 (constantI S_ 32 0#32))) (addi ptr (broadcastInDim S4096 ![] bcast_S_S4096 (constantI S_ 32 200#32))) ptr))⟩] concatenates_S4096x1_S4096x1_S4096x2_d1

/-- The slots with the values scattered in, where the gate is open. -/
def slotsR (g : IVec S4096x1 1) (v : FVec Ideal S4096x128 .f32) (slots : FVec Ideal S4096x200x128 .f32) (idx : IVec S4096x2 32) : FVec Ideal S4096x200x128 .f32 :=
  select (broadcastInDim S4096x200x128 ![0, 1, 2] bcast_S4096x1x1_S4096x200x128_0_1_2 (broadcastInDim S4096x1x1 ![0, 1] bcast_S4096x1_S4096x1x1_0_1 g)) (Host.scatter scatter_S4096x200x128_S4096x2_S4096x128_1_01_01_1 (fun _ b => b) slots idx v) slots

/-- The softmax of the raw weights. -/
def weightR (sw : FVec Ideal S200 .f32) : FVec Ideal S200 .f32 :=
 Host.divf (Host.exp (subf sw (broadcastInDim S200 ![0] bcast_S1_S200_0 (broadcastInDim S1 ![] bcast_S_S1 (maximumf (constant S_ .f32 0xFF800000#32) (Host.reduce FloatOps.maximumf sw (constant S_ .f32 0xFF800000#32) reducesTo_S200_S_d0 h_S_)))))) (broadcastInDim S200 ![0] bcast_S1_S200_0 (broadcastInDim S1 ![] bcast_S_S1 (Host.reduceAdd (Host.exp (subf sw (broadcastInDim S200 ![0] bcast_S1_S200_0 (broadcastInDim S1 ![] bcast_S_S1 (maximumf (constant S_ .f32 0xFF800000#32) (Host.reduce FloatOps.maximumf sw (constant S_ .f32 0xFF800000#32) reducesTo_S200_S_d0 h_S_)))))) (constant S_ .f32 0x00000000#32) reducesTo_S200_S_d0 h_S_)))

/-- The weighted sum of slots and positional rows, projected. -/
def hR (ns : FVec Ideal S4096x200x128 .f32) (pos : FVec Ideal S200x128 .f32) (w : FVec Ideal S200 .f32) (wp : FVec Ideal S128x128 .f32) (bp : FVec Ideal S128 .f32) : FVec Ideal S4096x128 .f32 :=
  addf (Host.dotGeneral dot_S4096x128_S128x128_S4096x128_1_0_0_1_n_n none (Host.reduceAdd (mulf (addf ns (broadcastInDim S4096x200x128 ![0, 1, 2] bcast_S1x200x128_S4096x200x128_0_1_2 (broadcastInDim S1x200x128 ![1, 2] bcast_S200x128_S1x200x128_1_2 pos))) (broadcastInDim S4096x200x128 ![0, 1, 2] bcast_S1x200x1_S4096x200x128_0_1_2 (broadcastInDim S1x200x1 ![1] bcast_S200_S1x200x1_1 w))) (constant S_ .f32 0x00000000#32) reducesTo_S4096x200x128_S4096x128_d1 h_S_) (transpose S128x128 [1, 0] wp transposes_S128x128_S128x128_1_0)) (broadcastInDim S4096x128 ![0, 1] bcast_S1x128_S4096x128_0_1 (broadcastInDim S1x128 ![1] bcast_S128_S1x128_1 bp))

/-- The divisor of the remainder. -/
def divisor : IVec S_ 32 := (select (cmpi .eq (id (constantI S_ 32 200#32)) (constantI S_ 32 0#32)) (constantI S_ 32 1#32) (id (constantI S_ 32 200#32)))

/-- The remainder of pointer plus gate. -/
def remR (g : IVec S4096x1 1) (ptr : IVec S4096 32) : IVec S4096 32 :=
  Host.remsi (addi ptr (extui 32 (shapeCast _ g shapeCasts_S4096x1_S4096) natLt_1_32)) (broadcastInDim S4096 ![] bcast_S_S4096 divisor)

/-- The remainder with its sign fixed up. -/
def ptrR (r : IVec S4096 32) : IVec S4096 32 :=
  select (andi (cmpi .ne (cmpi .slt r (broadcastInDim S4096 ![] bcast_S_S4096 (constantI S_ 32 0#32))) (broadcastInDim S4096 ![] bcast_S_S4096 (cmpi .slt divisor (constantI S_ 32 0#32)))) (cmpi .ne r (broadcastInDim S4096 ![] bcast_S_S4096 (constantI S_ 32 0#32)))) (addi r (broadcastInDim S4096 ![] bcast_S_S4096 divisor)) r

/-! ## The names read at an index -/

/-- Row `b`'s gate. -/
theorem gateR_apply (x : FVec Ideal S4096x128 .f32) (we : FVec Ideal S1x128 .f32) (be : FVec Ideal S1 .f32) (b : Fin 4096) :
    gateR x we be (ix2 b 0) = Cell.gate (∑ k, x (ix2 b k) * we (ix2 0 k) + be (ix1 0)) := by
  pointwise [gateR]
  rfl

/-- Row `b`'s value. -/
theorem valueR_apply (x : FVec Ideal S4096x128 .f32) (wv : FVec Ideal S128x128 .f32) (bv : FVec Ideal S128 .f32)
    (b : Fin 4096) (d : Fin 128) : valueR x wv bv (ix2 b d) = ∑ k, x (ix2 b k) * wv (ix2 d k) + bv (ix1 d) := by
  pointwise [valueR]

/-- The first index of row `b` is `b`. -/
theorem idxR_row (ptr : IVec S4096 32) (b : Fin 4096) : (idxR ptr (ix2 b 0)).toInt = (b.val : Int) := by
  pointwise [idxR]
  revert b
  decide +kernel

/-- The second index of row `b` is its pointer, if that is a slot's number. -/
theorem idxR_ptr (ptr : IVec S4096 32) (b : Fin 4096) (h : ∃ n : Fin 200, ptr (ix1 b) = BitVec.ofNat 32 n.val) :
    idxR ptr (ix2 b 1) = ptr (ix1 b) := by
  obtain ⟨n, hn⟩ := h
  pointwise [idxR]
  rw [hn]
  clear hn
  revert n
  decide +kernel

section Scatter

/-- The scatter's dimension numbers. -/
abbrev sd : ScatterDims S4096x200x128 S4096x2 S4096x128 := scatter_S4096x200x128_S4096x2_S4096x128_1_01_01_1

/-- Update `(a, e)` lands in the row of its first index. -/
theorem start0 (idx : IVec S4096x2 32) (a : Fin 4096) (e : Fin 128) : sd.start (ix2 a e) idx 0 = (idx (ix2 a 0)).toInt := by
  unfold ScatterDims.start
  rw [dif_pos (by decide)]
  refine congrArg (fun i => (idx i).toInt) (funext fun c => ?_)
  match c with
  | 0 => rfl
  | 1 => rfl

/-- Update `(a, e)` lands in the slot of its second index. -/
theorem start1 (idx : IVec S4096x2 32) (a : Fin 4096) (e : Fin 128) : sd.start (ix2 a e) idx 1 = (idx (ix2 a 1)).toInt := by
  unfold ScatterDims.start
  rw [dif_pos (by decide)]
  refine congrArg (fun i => (idx i).toInt) (funext fun c => ?_)
  match c with
  | 0 => rfl
  | 1 => rfl

/-- Update `(a, e)` lands at element `(b, s, d)` exactly if its indices are `b` and `s` and its column is `d`. -/
theorem lands (idx : IVec S4096x2 32) (a b : Fin 4096) (e d : Fin 128) (s : Fin 200) :
    sd.resultIdx? (ix2 a e) idx = some (ix3 b s d)
      ↔ (idx (ix2 a 0)).toInt = (b.val : Int) ∧ (idx (ix2 a 1)).toInt = (s.val : Int) ∧ e = d := by
  have e2 : sd.start (ix2 a e) idx 2 = 0 := rfl
  have w0 : sd.window (ix2 a e) 0 = 0 := rfl
  have w1 : sd.window (ix2 a e) 1 = 0 := rfl
  have w2 : sd.window (ix2 a e) 2 = e.val := rfl
  rw [Routing.resultIdx?_eq_some]
  constructor
  · intro h
    have h0 := h 0
    have h1 := h 1
    have h2 := h 2
    rw [start0, w0] at h0
    rw [start1, w1] at h1
    rw [e2, w2] at h2
    change _ = (b.val : Int) at h0
    change _ = (s.val : Int) at h1
    change _ = (d.val : Int) at h2
    exact ⟨by omega, by omega, Fin.ext (by omega)⟩
  · rintro ⟨h0, h1, rfl⟩ c
    match c with
    | 0 => rw [start0, w0, h0]; rfl
    | 1 => rw [start1, w1, h1]; rfl
    | 2 => rw [e2, w2]; simp

/-- The scatter read at an element: the row's value at the row's slot, and what was there elsewhere. -/
theorem scatter_apply (slots : FVec Ideal S4096x200x128 .f32) (idx : IVec S4096x2 32) (v : FVec Ideal S4096x128 .f32)
    (hrow : ∀ a : Fin 4096, (idx (ix2 a 0)).toInt = (a.val : Int))
    (b : Fin 4096) (hb : ∃ n : Fin 200, idx (ix2 b 1) = BitVec.ofNat 32 n.val) (s : Fin 200) (d : Fin 128) :
    Host.scatter sd (fun _ y => y) slots idx v (ix3 b s d)
      = if idx (ix2 b 1) = BitVec.ofNat 32 s.val then v (ix2 b d) else slots (ix3 b s d) := by
  obtain ⟨n, hn⟩ := hb
  split
  · rename_i h
    refine Routing.scatter_set_hit sd slots idx v _ _ (fun k hk => ?_) (ix2 b d) ?_
    · obtain ⟨k0, k1, rfl⟩ : ∃ (p : Fin 4096) (q : Fin 128), k = ix2 p q := ⟨k 0, k 1, eq_ix2 k⟩
      obtain ⟨h0, -, h2⟩ := (lands idx k0 b k1 d s).1 hk
      rw [hrow] at h0
      rw [h2, show k0 = b from Fin.ext (by omega)]
    · exact (lands ..).2 ⟨hrow b, by rw [h]; exact Cell.slot_toInt s, rfl⟩
  · rename_i h
    refine Routing.scatter_set_miss sd slots idx v _ fun k hk => h ?_
    obtain ⟨k0, k1, rfl⟩ : ∃ (p : Fin 4096) (q : Fin 128), k = ix2 p q := ⟨k 0, k 1, eq_ix2 k⟩
    obtain ⟨h0, h1, -⟩ := (lands idx k0 b k1 d s).1 hk
    rw [hrow] at h0
    rw [show k0 = b from Fin.ext (by omega), hn, Cell.slot_toInt] at h1
    rw [hn, show n = s from Fin.ext (by omega)]

end Scatter

/-- `new_slots` at an element: the row's value if this is the row's slot and the gate is open. -/
theorem slotsR_apply (g : IVec S4096x1 1) (v : FVec Ideal S4096x128 .f32) (slots : FVec Ideal S4096x200x128 .f32)
    (ptr : IVec S4096 32) (b : Fin 4096) (hb : ∃ n : Fin 200, ptr (ix1 b) = BitVec.ofNat 32 n.val) (s : Fin 200) (d : Fin 128) :
    slotsR g v slots (idxR ptr) (ix3 b s d)
      = if ptr (ix1 b) = BitVec.ofNat 32 s.val ∧ g (ix2 b 0) = 1#1 then v (ix2 b d) else slots (ix3 b s d) := by
  have hp := idxR_ptr ptr b hb
  pointwise [slotsR]
  rw [scatter_apply slots (idxR ptr) v (idxR_row ptr) b (by rw [hp]; exact hb) s d, hp]
  unfold Scalar.select
  by_cases h1 : ptr (ix1 b) = BitVec.ofNat 32 s.val
  · by_cases h2 : g (ix2 b 0) = 1#1
    · simp [h1, h2]
    · simp [h1, h2]
  · simp [h1]

/-- Slot `s`'s weight. -/
theorem weightR_apply (sw : FVec Ideal S200 .f32) (s : Fin 200) : weightR sw (ix1 s) = Cell.weight (fun k => sw (ix1 k)) s := by
  have h := Cell.max_top fun k => sw (ix1 k)
  unfold Cell.top at h
  pointwise [weightR]
  unfold Cell.weight Cell.top
  rw [h]

/-- `h` at an element. -/
theorem hR_apply (ns : FVec Ideal S4096x200x128 .f32) (pos : FVec Ideal S200x128 .f32) (w : FVec Ideal S200 .f32)
    (wp : FVec Ideal S128x128 .f32) (bp : FVec Ideal S128 .f32) (b : Fin 4096) (o : Fin 128) :
    hR ns pos w wp bp (ix2 b o)
      = ∑ d, (∑ s, (ns (ix3 b s d) + pos (ix2 s d)) * w (ix1 s)) * wp (ix2 o d) + bp (ix1 o) := by
  pointwise [hR]

/-- The divisor is the number of slots. -/
theorem divisor_apply : divisor ix0 = 200#32 := by
  decide +kernel

/-- Row `b`'s pointer after the step, if it was a slot's number. -/
theorem ptrR_apply (g : IVec S4096x1 1) (ptr : IVec S4096 32) (b : Fin 4096)
    (hb : ∃ n : Fin 200, ptr (ix1 b) = BitVec.ofNat 32 n.val) :
    ptrR (remR g ptr) (ix1 b) = Cell.step (g (ix2 b 0)) (ptr (ix1 b)) := by
  obtain ⟨n, hn⟩ := hb
  have h := divisor_apply
  pointwise [ptrR, remR]
  simp only [h]
  rw [hn, Cell.step_eq_wrap]
  rfl

end Cert.ReferenceIdeal.Hand

end
-- ==== Proof.Tie.lean ====
/- The equation: at every grid point the kernel stores what the reference computes there. -/
module

public import proofs.«01_k».proof.Proof.Run
public import proofs.«01_k».proof.Proof.Blocks
public import proofs.«01_k».proof.Proof.KerVal
public import proofs.«01_k».proof.Proof.RefVal

@[expose] public section

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ) (c : Dev nD) (t : Fin cfg0.N)

/-- The reference's gates of the kernel's arguments. -/
def gateT : IVec S4096x1 1 :=
  Cert.ReferenceIdeal.Hand.gateR (m ((c : Thread nD τ).loc main_arg0)) (m ((c : Thread nD τ).loc main_arg5)) (m ((c : Thread nD τ).loc main_arg6))

/-- The reference's `new_slots` of the kernel's arguments. -/
def slotsT : FVec Ideal S4096x200x128 .f32 :=
  Cert.ReferenceIdeal.Hand.slotsR (gateT m c)
    (Cert.ReferenceIdeal.Hand.valueR (m ((c : Thread nD τ).loc main_arg0)) (m ((c : Thread nD τ).loc main_arg3)) (m ((c : Thread nD τ).loc main_arg4)))
    (m ((c : Thread nD τ).loc main_arg1)) (Cert.ReferenceIdeal.Hand.idxR (m ((c : Thread nD τ).loc main_arg2)))

/-- The reference's `new_ptr` of the kernel's arguments. -/
def ptrT : IVec S4096 32 :=
  Cert.ReferenceIdeal.Hand.ptrR (Cert.ReferenceIdeal.Hand.remR (gateT m c) (m ((c : Thread nD τ).loc main_arg2)))

/-- The reference's `h` of the kernel's arguments. -/
def hT : FVec Ideal S4096x128 .f32 :=
  Cert.ReferenceIdeal.Hand.hR (slotsT m c) (m ((c : Thread nD τ).loc main_arg7))
    (Cert.ReferenceIdeal.Hand.weightR (m ((c : Thread nD τ).loc main_arg8))) (m ((c : Thread nD τ).loc main_arg9)) (m ((c : Thread nD τ).loc main_arg10))

/-- The rows of `x` at point `t`, read in the argument. -/
theorem xRows_arg (r : Fin 64) (d : Fin 128) :
    xRows (grid0.coords t) (iblk m c 0 t) (ix2 r d) = m ((c : Thread nD τ).loc main_arg0) (ix2 (row t r) d) :=
  (xRows_apply t _ (coords_val t) _ r d).trans (blk0 m c t _ d)

/-- The pointers at point `t`, read in the argument. -/
theorem ptrRows_arg (r : Fin 64) :
    ptrRows (F := Ideal) (grid0.coords t) (iblk m c 2 t) (ix2 r 0) = m ((c : Thread nD τ).loc main_arg2) (ix1 (row t r)) :=
  (ptrRows_apply (F := Ideal) t _ (coords_val t) _ r).trans (blk2 m c t _)

/-- A point's gates are the reference's. -/
theorem gate_tie (r : Fin 64) :
    k0_pay1 (F := Ideal) (xRows (grid0.coords t) (iblk m c 0 t)) (iblk m c 5 t) (iblk m c 6 t) (ix2 r 0) = gateT m c (ix2 (row t r) 0) := by
  refine (gateK_apply _ _ _ r).trans (Eq.trans ?_ (Cert.ReferenceIdeal.Hand.gateR_apply _ _ _ (row t r)).symm)
  refine congrArg Cell.gate (congrArg₂ (· + ·) (Finset.sum_congr rfl fun k _ => ?_) (blk6 m c t))
  exact congrArg₂ (· * ·) (xRows_arg m c t r k) (blk5 m c t k)

/-- A point's block of `new_slots` is the reference's rows. -/
theorem slots_tie (hp : ∀ b : Fin 4096, ∃ n : Fin 200, m ((c : Thread nD τ).loc main_arg2) (ix1 b) = BitVec.ofNat 32 n.val)
    (r : Fin 64) (s : Fin 200) (d : Fin 128) : slotsBlk m c t (ix3 r s d) = slotsT m c (ix3 (row t r) s d) := by
  refine (slotsK_apply _ _ _ _ _ _ _ r s d).trans (Eq.trans ?_ (Cert.ReferenceIdeal.Hand.slotsR_apply _ _ _ _ (row t r) (hp _) s d).symm)
  refine ite_congr ?_ (fun _ => ?_) fun _ => blk1 m c t r s d
  · exact congrArg₂ (fun (p : BitVec 32) (g : BitVec 1) => p = BitVec.ofNat 32 s.val ∧ g = 1#1) (ptrRows_arg m c t r) (gate_tie m c t r)
  · refine Eq.trans ?_ (Cert.ReferenceIdeal.Hand.valueR_apply _ _ _ (row t r) d).symm
    refine congrArg₂ (· + ·) (Finset.sum_congr rfl fun k _ => ?_) (blk4 m c t d)
    exact congrArg₂ (· * ·) (xRows_arg m c t r k) (blk3 m c t d k)

/-- A point's rows of `new_ptr` are the reference's. -/
theorem ptr_tie (hp : ∀ b : Fin 4096, ∃ n : Fin 200, m ((c : Thread nD τ).loc main_arg2) (ix1 b) = BitVec.ofNat 32 n.val)
    (r : Fin 64) : ptrBlk m c t (ix2 r 0) = ptrT m c (ix1 (row t r)) := by
  refine (ptrK_apply _ _ _ _ r).trans (Eq.trans ?_ (Cert.ReferenceIdeal.Hand.ptrR_apply _ _ (row t r) (hp _)).symm)
  exact congrArg₂ Cell.step (gate_tie m c t r) (ptrRows_arg m c t r)

/-- A point's rows of `h` are the reference's. -/
theorem h_tie (hp : ∀ b : Fin 4096, ∃ n : Fin 200, m ((c : Thread nD τ).loc main_arg2) (ix1 b) = BitVec.ofNat 32 n.val)
    (hb : Cell.top (fun k => m ((c : Thread nD τ).loc main_arg8) (ix1 k)) ≠ ⊥)
    (ht : Cell.top (fun k => m ((c : Thread nD τ).loc main_arg8) (ix1 k)) ≠ ⊤)
    (r : Fin 64) (o : Fin 128) : hBlk m c t (ix2 r o) = hT m c (ix2 (row t r) o) := by
  have hw : (fun k => iblk m c 8 t (ix2 0 k)) = fun k => m ((c : Thread nD τ).loc main_arg8) (ix1 k) := funext fun k => blk8 m c t k
  refine (hK_apply _ _ _ _ _ (by exact hw ▸ hb) (by exact hw ▸ ht) r o).trans
    (Eq.trans ?_ (Cert.ReferenceIdeal.Hand.hR_apply _ _ _ _ _ (row t r) o).symm)
  refine congrArg₂ (· + ·) (Finset.sum_congr rfl fun d _ => ?_) (blk10 m c t o)
  refine congrArg₂ (· * ·) (Finset.sum_congr rfl fun s _ => ?_) (blk9 m c t o d)
  refine congrArg₂ (· * ·) (congrArg₂ (· + ·) (slots_tie m c t hp r s d) (blk7 m c t s d)) ?_
  exact (congrArg (Cell.weight · s) hw).trans (Cert.ReferenceIdeal.Hand.weightR_apply _ s).symm

end Cert.KernelIdeal.Hand

end
-- ==== Proof.Value.lean ====
/- The kernel's results, whole: under the precondition each is the reference's function of the arguments. And the
   reference's own run, its results named by the same functions. -/
module

public import proofs.«01_k».proof.Proof.Final
public import proofs.«01_k».proof.Proof.Tie
public import proofs.«01_k».proof.Proof.Gen.ReferenceIdeal.Run
public import Idealize.ShloMosaic.Lib.Quiescent

@[expose] public section

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- What a device's arguments satisfy: pointers that are slot numbers, and raw weights whose maximum is finite. -/
def Valid (c : Dev nD) : Prop :=
  (∀ b : Fin 4096, ∃ n : Fin 200, m ((c : Thread nD τ).loc main_arg2) (ix1 b) = BitVec.ofNat 32 n.val)
    ∧ Cell.top (fun k => m ((c : Thread nD τ).loc main_arg8) (ix1 k)) ≠ ⊥
    ∧ Cell.top (fun k => m ((c : Thread nD τ).loc main_arg8) (ix1 k)) ≠ ⊤

/-- The kernel ends with the reference's `h`, `new_slots` and `new_ptr` of its arguments, the arguments unchanged. -/
theorem run_value (hv : ∀ c, Valid m c) :
    θ_run defs (onTc (τ := τ) (main (F := Ideal))) ⟨m, fun _ => 0, ρ⟩ (fun r => ∀ c : Dev nD,
      r.2.mem ((c.tc : Thread nD τ).loc main_v5_0) = hT m c
      ∧ r.2.mem ((c.tc : Thread nD τ).loc main_v5_1) = slotsT m c
      ∧ r.2.mem ((c.tc : Thread nD τ).loc main_v6) = ptrT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run defs _ _).mono (fun r h c => ?_) (run_main (F := Ideal) m ρ)
  obtain ⟨hp, hb, ht⟩ := hv c
  refine ⟨h_final m h.1 c _ fun t y x e0 e1 => ?_, slots_final m h.1 c _ fun t y x e0 e1 e2 => ?_,
    ptr_final m h.1 c _ fun t y x e0 => ?_, args_kept m h.1 c⟩
  · obtain ⟨r, o, rfl⟩ : ∃ p q, x = ix2 p q := ⟨x 0, x 1, eq_ix2 x⟩
    obtain rfl : y = ix2 (row t r) o := (eq_ix2 y).trans (congrArg₂ ix2 (Fin.ext e0) (Fin.ext e1))
    exact h_tie m c t hp hb ht r o
  · obtain ⟨r, s, d, rfl⟩ : ∃ p q u, x = ix3 p q u := ⟨x 0, x 1, x 2, eq_ix3 x⟩
    obtain rfl : y = ix3 (row t r) s d := by
      have h0 : y 0 = row t r := Fin.ext e0
      have h1 : y 1 = s := Fin.ext e1
      have h2 : y 2 = d := Fin.ext e2
      rw [← h0, ← h1, ← h2]; exact eq_ix3 y
    exact slots_tie m c t hp r s d
  · obtain ⟨r, q, rfl⟩ : ∃ p q, x = ix2 p q := ⟨x 0, x 1, eq_ix2 x⟩
    obtain rfl : q = 0 := Subsingleton.elim _ _
    obtain rfl : y = ix1 (row t r) := (eq_ix1 y).trans (congrArg ix1 (Fin.ext e0))
    exact ptr_tie m c t hp r

end Cert.KernelIdeal.Hand

namespace Cert.ReferenceIdeal.Hand

open Cert.ReferenceIdeal Cert.ReferenceIdeal.Gen
open Idealize.ShloMosaic Idealize.ShloMosaic.TcCoe Idealize.SL.Sem

variable (m : (ℓ : Loc nD τ sig) → Buf (Elt Ideal) ℓ) (ρ : Dev nD → PrngReg)

/-- The reference's run ends with its arguments unchanged and every counter at zero: it has no counters. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => (h c).2.2.2, sem_eq_zero_of_no_sems rfl r.2⟩)
    (Cert.ReferenceIdeal.Value.run (F := Ideal) m ρ)

/-- The reference's run, from a memory that holds the arguments `a0` … `a10` on device `c`: its results are the named
    functions of them. -/
theorem run_value : θ_run defs (onTc (τ := τ) (main (F := Ideal))) ⟨m, fun _ => 0, ρ⟩ (fun r => ∀ c : Dev nD,
      (∀ a0 a1 a2 a3 a4 a5 a6 a7 a8 a9 a10,
        m ((c.tc : Thread nD τ).loc main_arg0) = a0 → m ((c.tc : Thread nD τ).loc main_arg1) = a1
        → m ((c.tc : Thread nD τ).loc main_arg2) = a2 → m ((c.tc : Thread nD τ).loc main_arg3) = a3
        → m ((c.tc : Thread nD τ).loc main_arg4) = a4 → m ((c.tc : Thread nD τ).loc main_arg5) = a5
        → m ((c.tc : Thread nD τ).loc main_arg6) = a6 → m ((c.tc : Thread nD τ).loc main_arg7) = a7
        → m ((c.tc : Thread nD τ).loc main_arg8) = a8 → m ((c.tc : Thread nD τ).loc main_arg9) = a9
        → m ((c.tc : Thread nD τ).loc main_arg10) = a10
        → r.2.mem ((c.tc : Thread nD τ).loc main_v60)
              = hR (slotsR (gateR a0 a5 a6) (valueR a0 a3 a4) a1 (idxR a2)) a7 (weightR a8) a9 a10
          ∧ r.2.mem ((c.tc : Thread nD τ).loc main_v34) = slotsR (gateR a0 a5 a6) (valueR a0 a3 a4) a1 (idxR a2)
          ∧ r.2.mem ((c.tc : Thread nD τ).loc main_v38) = ptrR (remR (gateR a0 a5 a6) a2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run defs _ _).mono (fun r h c => ?_) (Cert.ReferenceIdeal.Value.run (F := Ideal) m ρ)
  obtain ⟨h0, h1, h2, hk⟩ := h c
  refine ⟨fun a0 a1 a2 a3 a4 a5 a6 a7 a8 a9 a10 e0 e1 e2 e3 e4 e5 e6 e7 e8 e9 e10 => ?_, hk⟩
  subst e0 e1 e2 e3 e4 e5 e6 e7 e8 e9 e10
  exact ⟨h0.trans rfl, h1.trans rfl, h2.trans rfl⟩

end Cert.ReferenceIdeal.Hand

end
-- ==== Proof.Same.lean ====
/- The program and its reading over the extended reals are one program, for any floats: no operation was rewritten. So
   the frame of the one is the frame of the other. -/
module

public import proofs.«01_k».proof.Proof.Gen.Kernel
public import proofs.«01_k».proof.Proof.Final

@[expose] public section

set_option maxRecDepth 16384

noncomputable section

namespace Cert.Same

open Idealize.ShloMosaic Idealize.SL.Sem
attribute [local instance] Cert.Kernel.Gen.facts Cert.KernelIdeal.Gen.facts

variable {F : FTy → Type} [FloatOps F]

/-- The two programs have one body. -/
theorem body_same : Cert.Kernel.defs₀ (F := F) = Cert.KernelIdeal.defs₀ (F := F) := by
  unfold Cert.Kernel.defs₀ Cert.KernelIdeal.defs₀
  refine congrArg (Defs.onTc (Λ := Cert.KernelIdeal.Λ₀) (nD := 1) (τ := Topo.v7x) (sig := Cert.KernelIdeal.sig) (Val := Elt F)) ?_
  funext l p
  match l, p with
  | 0, (t, s) => rfl
  | ⟨_ + 1, h⟩, _ => exact absurd h (by omega)

/-- The two programs have one table of functions. -/
theorem defs_same : Cert.Kernel.defs (F := F) = Cert.KernelIdeal.defs (F := F) := by
  unfold Cert.Kernel.defs Cert.KernelIdeal.defs
  exact congrArg (Pipeline.defs Cert.KernelIdeal.pcfgs) body_same

/-- The two programs have one host function. -/
theorem main_same : Cert.Kernel.main (F := F) = Cert.KernelIdeal.main (F := F) := rfl

open Cert.Kernel in
/-- The frame of the program: from any memory with zero counters it terminates with every argument as launched and every
    counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) := by
  rw [defs_same, main_same]
  exact Cert.KernelIdeal.Hand.frame (F := F) m ρ

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Pre
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.SL.Sem Cert.Kernel

/-- The precondition, on each device: its pointers are slot numbers and the maximum of its raw weights is finite. -/
theorem valid_of_pre (m : (ℓ : Loc Cert.KernelIdeal.nD Cert.KernelIdeal.τ Cert.KernelIdeal.sig) → Buf (Elt Ideal) ℓ)
    (h : Cert.Pre_KernelIdeal_valid_inputs (hPre_valid_inputs := Cert.Pre_valid_inputs.facts) m) (c : Dev Cert.KernelIdeal.nD) :
    Cert.KernelIdeal.Hand.Valid m c :=
  letI := Cert.Pre_valid_inputs.facts
  have hs := Cert.Pre_valid_inputs.spec _ _ _ _ _ _ _ _ _ _ _ (h c)
  ⟨fun b => (hs b).1, (hs 0).2⟩

/-- Every claim of the certificate. -/
theorem claim : Cert.Claim := by
  refine ⟨Cert.Kernel.Gen.facts, Cert.KernelIdeal.Gen.facts, Cert.ReferenceIdeal.Gen.facts, Cert.Pre_valid_inputs.facts,
    fun m ρ _ => Cert.Same.frame (F := Bits) m ρ, fun m ρ _ => Cert.KernelIdeal.Hand.frame m ρ,
    fun m ρ _ => Cert.KernelIdeal.Hand.frame m ρ, fun m ρ _ => Cert.ReferenceIdeal.Hand.frame m ρ,
    fun m ρ _ => Cert.ReferenceIdeal.Hand.frame m ρ, trivial, fun m ρ m' ρ' hpre hagree =>
    ⟨Cert.KernelIdeal.Hand.hT m, Cert.KernelIdeal.Hand.slotsT m, Cert.KernelIdeal.Hand.ptrT m,
      Cert.KernelIdeal.Hand.run_value m ρ fun c => valid_of_pre m hpre c, ?_⟩⟩
  refine (θ_run _ _ _).mono (fun r h c => ?_) (Cert.ReferenceIdeal.Hand.run_value m' ρ')
  obtain ⟨hv, hk⟩ := h c
  obtain ⟨e0, e1, e2, e3, e4, e5, e6, e7, e8, e9, e10⟩ := hagree c
  obtain ⟨h0, h1, h2⟩ := hv _ _ _ _ _ _ _ _ _ _ _ e0 e1 e2 e3 e4 e5 e6 e7 e8 e9 e10
  exact ⟨h0, h1, h2, hk⟩

end Cert.Proof

end
